-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨5, ![1, 1, 1, 1024, 1024]⟩ ⟨5, ![2, 2, 4, 1024, 1024]⟩ (Layout.meshBlock [2, 2, 4] ![[0], [1], [2], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1x1x1024x1024 : Shape := ⟨5, ![1, 1, 1, 1024, 1024]⟩
abbrev S1024x1024 : Shape := ⟨2, ![1024, 1024]⟩
abbrev S192x1024 : Shape := ⟨2, ![192, 1024]⟩
abbrev S96x1024 : Shape := ⟨2, ![96, 1024]⟩
abbrev S48x1024 : Shape := ⟨2, ![48, 1024]⟩
abbrev S24x1024 : Shape := ⟨2, ![24, 1024]⟩
abbrev S64x1024 : Shape := ⟨2, ![64, 1024]⟩
abbrev S32x1024 : Shape := ⟨2, ![32, 1024]⟩
abbrev S16x1024 : Shape := ⟨2, ![16, 1024]⟩
abbrev S8x1024 : Shape := ⟨2, ![8, 1024]⟩
abbrev S32 : Shape := ⟨1, ![32]⟩
abbrev S_ : Shape := ⟨0, ![]⟩
abbrev S1 : Shape := ⟨1, ![1]⟩

abbrev nBuf : Space → Nat
  | .hbm => 2
  | .vmem => 18
  | .smem => 0
  | _ => 0

abbrev bufTy : (tb : Table) → Fin (tcTables nBuf tb) → BufTy
  | .hbm, ⟨0, _⟩ => ⟨S1x1x1x1024x1024, .f32⟩
  | .hbm, ⟨1, _⟩ => ⟨S1024x1024, .f32⟩
  | .local _ .vmem, ⟨0, _⟩ => ⟨S1x1x1x1024x1024, .f32⟩
  | .local _ .vmem, ⟨1, _⟩ => ⟨S1024x1024, .f32⟩
  | .local _ .vmem, ⟨2, _⟩ => ⟨S192x1024, .f32⟩
  | .local _ .vmem, ⟨3, _⟩ => ⟨S96x1024, .f32⟩
  | .local _ .vmem, ⟨4, _⟩ => ⟨S48x1024, .f32⟩
  | .local _ .vmem, ⟨5, _⟩ => ⟨S24x1024, .f32⟩
  | .local _ .vmem, ⟨6, _⟩ => ⟨S192x1024, .f32⟩
  | .local _ .vmem, ⟨7, _⟩ => ⟨S96x1024, .f32⟩
  | .local _ .vmem, ⟨8, _⟩ => ⟨S48x1024, .f32⟩
  | .local _ .vmem, ⟨9, _⟩ => ⟨S24x1024, .f32⟩
  | .local _ .vmem, ⟨10, _⟩ => ⟨S64x1024, .f32⟩
  | .local _ .vmem, ⟨11, _⟩ => ⟨S32x1024, .f32⟩
  | .local _ .vmem, ⟨12, _⟩ => ⟨S16x1024, .f32⟩
  | .local _ .vmem, ⟨13, _⟩ => ⟨S8x1024, .f32⟩
  | .local _ .vmem, ⟨14, _⟩ => ⟨S64x1024, .f32⟩
  | .local _ .vmem, ⟨15, _⟩ => ⟨S32x1024, .f32⟩
  | .local _ .vmem, ⟨16, _⟩ => ⟨S16x1024, .f32⟩
  | .local _ .vmem, ⟨17, _⟩ => ⟨S8x1024, .f32⟩
  | _, _ => ⟨S1x1x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_scratch10 : Ref sig .tc := ⟨.vmem, 12, rfl⟩
abbrev cc0_scratch11 : Ref sig .tc := ⟨.vmem, 13, rfl⟩
abbrev cc0_scratch12 : Ref sig .tc := ⟨.vmem, 14, rfl⟩
abbrev cc0_scratch13 : Ref sig .tc := ⟨.vmem, 15, rfl⟩
abbrev cc0_scratch14 : Ref sig .tc := ⟨.vmem, 16, rfl⟩
abbrev cc0_scratch15 : Ref sig .tc := ⟨.vmem, 17, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_20 : BitVec 32 := 0#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.subi c1_i32_14 v2
  let c8_i32_19 : BitVec 32 := 8#32
  let v41 : BitVec 32 := Scalar.muli v36 c8_i32_19
  let v42 : BitVec 32 := Scalar.addi c0_i32_20 v41
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_21 : BitVec 32 := 4#32
  let v43 : BitVec 32 := Scalar.muli v5 c4_i32_21
  let v44 : BitVec 32 := Scalar.addi v42 v43
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v45 : BitVec 32 := Scalar.muli v8 c1_i32_22
  let v46 : BitVec 32 := Scalar.addi v44 v45
  v46.toNat
def k0_dev2 (d0 : Dev nD) : Nat :=
  let c0_i32_25 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_24 : BitVec 32 := 8#32
  let v47 : BitVec 32 := Scalar.muli v2 c8_i32_24
  let v48 : BitVec 32 := Scalar.addi c0_i32_25 v47
  let c1_i32_15 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_15 v5
  let c4_i32_26 : BitVec 32 := 4#32
  let v49 : BitVec 32 := Scalar.muli v37 c4_i32_26
  let v50 : BitVec 32 := Scalar.addi v48 v49
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_27 : BitVec 32 := 1#32
  let v51 : BitVec 32 := Scalar.muli v8 c1_i32_27
  let v52 : BitVec 32 := Scalar.addi v50 v51
  v52.toNat
def k0_dev3 (d0 : Dev nD) : Nat :=
  let c0_i32_30 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_29 : BitVec 32 := 8#32
  let v53 : BitVec 32 := Scalar.muli v2 c8_i32_29
  let v54 : BitVec 32 := Scalar.addi c0_i32_30 v53
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_31 : BitVec 32 := 4#32
  let v55 : BitVec 32 := Scalar.muli v5 c4_i32_31
  let v56 : BitVec 32 := Scalar.addi v54 v55
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_16 : BitVec 32 := 2#32
  let v38 : BitVec 32 := Scalar.xori v8 c2_i32_16
  let c1_i32_32 : BitVec 32 := 1#32
  let v57 : BitVec 32 := Scalar.muli v38 c1_i32_32
  let v58 : BitVec 32 := Scalar.addi v56 v57
  v58.toNat
def k0_dev4 (d0 : Dev nD) : Nat :=
  let c0_i32_35 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_34 : BitVec 32 := 8#32
  let v59 : BitVec 32 := Scalar.muli v2 c8_i32_34
  let v60 : BitVec 32 := Scalar.addi c0_i32_35 v59
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_36 : BitVec 32 := 4#32
  let v61 : BitVec 32 := Scalar.muli v5 c4_i32_36
  let v62 : BitVec 32 := Scalar.addi v60 v61
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_17 : BitVec 32 := 1#32
  let v39 : BitVec 32 := Scalar.xori v8 c1_i32_17
  let c1_i32_37 : BitVec 32 := 1#32
  let v63 : BitVec 32 := Scalar.muli v39 c1_i32_37
  let v64 : BitVec 32 := Scalar.addi v62 v63
  v64.toNat
def k0_off1 (d0 : Dev nD) (c0_i32_46 : BitVec 32) (c8_i32 : BitVec 32) : Fin 2 → Nat :=
  let c1_i32_45 : BitVec 32 := 1#32
  let v0 : BitVec 32 := Dev.word d0
  let v1 : BitVec 32 := Scalar.divsi v0 c8_i32
  let c2_i32 : BitVec 32 := 2#32
  let v2 : BitVec 32 := Scalar.remsi v1 c2_i32
  let v69 : BitVec 32 := Scalar.subi c1_i32_45 v2
  let c192_i32 : BitVec 32 := 192#32
  let v70 : BitVec 32 := Scalar.muli v69 c192_i32
  let v71 : BitVec 32 := Scalar.addi c0_i32_46 v70
  let c0_i32_53 : BitVec 32 := 0#32
  ![v71.toNat, 0]
def k0_off1_at (r : Fin 2) : BitVec 32 × BitVec 32 :=
  if r.val < 1 then
    (0#32, 8#32)
  else
    (384#32, 4#32)
def k0_dev5 (d0 : Dev nD) : Nat :=
  let c0_i32_50 : BitVec 32 := 0#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.subi c1_i32_14 v2
  let c8_i32_49 : BitVec 32 := 8#32
  let v72 : BitVec 32 := Scalar.muli v36 c8_i32_49
  let v73 : BitVec 32 := Scalar.addi c0_i32_50 v72
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_51 : BitVec 32 := 4#32
  let v74 : BitVec 32 := Scalar.muli v5 c4_i32_51
  let v75 : BitVec 32 := Scalar.addi v73 v74
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_52 : BitVec 32 := 1#32
  let v76 : BitVec 32 := Scalar.muli v8 c1_i32_52
  let v77 : BitVec 32 := Scalar.addi v75 v76
  v77.toNat
def k0_dev6 (d0 : Dev nD) : Nat :=
  let c0_i32_59 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_58 : BitVec 32 := 8#32
  let v86 : BitVec 32 := Scalar.muli v2 c8_i32_58
  let v87 : BitVec 32 := Scalar.addi c0_i32_59 v86
  let c1_i32_15 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_15 v5
  let c4_i32_60 : BitVec 32 := 4#32
  let v88 : BitVec 32 := Scalar.muli v37 c4_i32_60
  let v89 : BitVec 32 := Scalar.addi v87 v88
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_61 : BitVec 32 := 1#32
  let v90 : BitVec 32 := Scalar.muli v8 c1_i32_61
  let v91 : BitVec 32 := Scalar.addi v89 v90
  v91.toNat
def k0_off2 (d0 : Dev nD) : Fin 2 → Nat :=
  let c768_i32 : BitVec 32 := 768#32
  let c1_i32_63 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let c0_i32_9 : BitVec 32 := 0#32
  let v26 : BitVec 1 := Scalar.cmpi .eq c2_i32_8 c0_i32_9
  let c1_i32_10 : BitVec 32 := 1#32
  let v27 : BitVec 32 := Scalar.select v26 c1_i32_10 c2_i32_8
  let v28 : BitVec 32 := Scalar.remsi v8 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let v97 : BitVec 32 := Scalar.subi c1_i32_63 v35
  let c64_i32 : BitVec 32 := 64#32
  let v98 : BitVec 32 := Scalar.muli v97 c64_i32
  let v99 : BitVec 32 := Scalar.addi c768_i32 v98
  let c0_i32_69 : BitVec 32 := 0#32
  ![v99.toNat, 0]
def k0_dev7 (d0 : Dev nD) : Nat :=
  let c0_i32_66 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_65 : BitVec 32 := 8#32
  let v100 : BitVec 32 := Scalar.muli v2 c8_i32_65
  let v101 : BitVec 32 := Scalar.addi c0_i32_66 v100
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_67 : BitVec 32 := 4#32
  let v102 : BitVec 32 := Scalar.muli v5 c4_i32_67
  let v103 : BitVec 32 := Scalar.addi v101 v102
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_17 : BitVec 32 := 1#32
  let v39 : BitVec 32 := Scalar.xori v8 c1_i32_17
  let c1_i32_68 : BitVec 32 := 1#32
  let v104 : BitVec 32 := Scalar.muli v39 c1_i32_68
  let v105 : BitVec 32 := Scalar.addi v103 v104
  v105.toNat
def k0_off3 (d0 : Dev nD) : Fin 2 → Nat :=
  let c896_i32 : BitVec 32 := 896#32
  let c1_i32_70 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let v111 : BitVec 32 := Scalar.subi c1_i32_70 v25
  let c64_i32_71 : BitVec 32 := 64#32
  let v112 : BitVec 32 := Scalar.muli v111 c64_i32_71
  let v113 : BitVec 32 := Scalar.addi c896_i32 v112
  let c0_i32_77 : BitVec 32 := 0#32
  ![v113.toNat, 0]
def k0_dev8 (d0 : Dev nD) : Nat :=
  let c0_i32_74 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_73 : BitVec 32 := 8#32
  let v114 : BitVec 32 := Scalar.muli v2 c8_i32_73
  let v115 : BitVec 32 := Scalar.addi c0_i32_74 v114
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_75 : BitVec 32 := 4#32
  let v116 : BitVec 32 := Scalar.muli v5 c4_i32_75
  let v117 : BitVec 32 := Scalar.addi v115 v116
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_16 : BitVec 32 := 2#32
  let v38 : BitVec 32 := Scalar.xori v8 c2_i32_16
  let c1_i32_76 : BitVec 32 := 1#32
  let v118 : BitVec 32 := Scalar.muli v38 c1_i32_76
  let v119 : BitVec 32 := Scalar.addi v117 v118
  v119.toNat
def k0_off4 (d0 : Dev nD) (c0_i32_90 : BitVec 32) (c8_i32 : BitVec 32) : Fin 2 → Nat :=
  let v0 : BitVec 32 := Dev.word d0
  let v1 : BitVec 32 := Scalar.divsi v0 c8_i32
  let c2_i32 : BitVec 32 := 2#32
  let v2 : BitVec 32 := Scalar.remsi v1 c2_i32
  let c192_i32_89 : BitVec 32 := 192#32
  let v137 : BitVec 32 := Scalar.muli v2 c192_i32_89
  let v138 : BitVec 32 := Scalar.addi c0_i32_90 v137
  let v139 : Index := Scalar.indexCast v138
  let c0_91 : Index := 0#32
  ![v139.toNat, 0]
def k0_off4_at (r : Fin 2) : BitVec 32 × BitVec 32 :=
  if r.val < 1 then
    (0#32, 8#32)
  else
    (384#32, 4#32)
def k0_off5 (d0 : Dev nD) (c0_i32_90 : BitVec 32) (c8_i32 : BitVec 32) (c4_i32 : BitVec 32) : Fin 2 → Nat :=
  let v0 : BitVec 32 := Dev.word d0
  let v1 : BitVec 32 := Scalar.divsi v0 c8_i32
  let c2_i32 : BitVec 32 := 2#32
  let v2 : BitVec 32 := Scalar.remsi v1 c2_i32
  let c192_i32_89 : BitVec 32 := 192#32
  let v137 : BitVec 32 := Scalar.muli v2 c192_i32_89
  let v138 : BitVec 32 := Scalar.addi c0_i32_90 v137
  let c1_i32_95 : BitVec 32 := 1#32
  let v3 : BitVec 32 := Dev.word d0
  let v4 : BitVec 32 := Scalar.divsi v3 c4_i32
  let c2_i32_0 : BitVec 32 := 2#32
  let v5 : BitVec 32 := Scalar.remsi v4 c2_i32_0
  let v146 : BitVec 32 := Scalar.subi c1_i32_95 v5
  let c96_i32 : BitVec 32 := 96#32
  let v147 : BitVec 32 := Scalar.muli v146 c96_i32
  let v148 : BitVec 32 := Scalar.addi v138 v147
  let c0_i32_102 : BitVec 32 := 0#32
  ![v148.toNat, 0]
def k0_off5_at (r : Fin 2) : BitVec 32 × BitVec 32 × BitVec 32 :=
  if r.val < 1 then
    (0#32, 8#32, 4#32)
  else
    (384#32, 4#32, 8#32)
def k0_dev9 (d0 : Dev nD) : Nat :=
  let c0_i32_99 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_98 : BitVec 32 := 8#32
  let v149 : BitVec 32 := Scalar.muli v2 c8_i32_98
  let v150 : BitVec 32 := Scalar.addi c0_i32_99 v149
  let c1_i32_15 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_15 v5
  let c4_i32_100 : BitVec 32 := 4#32
  let v151 : BitVec 32 := Scalar.muli v37 c4_i32_100
  let v152 : BitVec 32 := Scalar.addi v150 v151
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_101 : BitVec 32 := 1#32
  let v153 : BitVec 32 := Scalar.muli v8 c1_i32_101
  let v154 : BitVec 32 := Scalar.addi v152 v153
  v154.toNat
def k0_dev10 (d0 : Dev nD) : Nat :=
  let c0_i32_124 : BitVec 32 := 0#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.subi c1_i32_14 v2
  let c8_i32_123 : BitVec 32 := 8#32
  let v184 : BitVec 32 := Scalar.muli v36 c8_i32_123
  let v185 : BitVec 32 := Scalar.addi c0_i32_124 v184
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_125 : BitVec 32 := 4#32
  let v186 : BitVec 32 := Scalar.muli v5 c4_i32_125
  let v187 : BitVec 32 := Scalar.addi v185 v186
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_126 : BitVec 32 := 1#32
  let v188 : BitVec 32 := Scalar.muli v8 c1_i32_126
  let v189 : BitVec 32 := Scalar.addi v187 v188
  v189.toNat
def k0_off6 (d0 : Dev nD) : Fin 2 → Nat :=
  let c768_i32_140 : BitVec 32 := 768#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let c0_i32_9 : BitVec 32 := 0#32
  let v26 : BitVec 1 := Scalar.cmpi .eq c2_i32_8 c0_i32_9
  let c1_i32_10 : BitVec 32 := 1#32
  let v27 : BitVec 32 := Scalar.select v26 c1_i32_10 c2_i32_8
  let v28 : BitVec 32 := Scalar.remsi v8 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c64_i32_139 : BitVec 32 := 64#32
  let v207 : BitVec 32 := Scalar.muli v35 c64_i32_139
  let v208 : BitVec 32 := Scalar.addi c768_i32_140 v207
  let v209 : Index := Scalar.indexCast v208
  let c0_141 : Index := 0#32
  ![v209.toNat, 0]
def k0_off7 (d0 : Dev nD) : Fin 2 → Nat :=
  let c768_i32_140 : BitVec 32 := 768#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let c0_i32_9 : BitVec 32 := 0#32
  let v26 : BitVec 1 := Scalar.cmpi .eq c2_i32_8 c0_i32_9
  let c1_i32_10 : BitVec 32 := 1#32
  let v27 : BitVec 32 := Scalar.select v26 c1_i32_10 c2_i32_8
  let v28 : BitVec 32 := Scalar.remsi v8 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c64_i32_139 : BitVec 32 := 64#32
  let v207 : BitVec 32 := Scalar.muli v35 c64_i32_139
  let v208 : BitVec 32 := Scalar.addi c768_i32_140 v207
  let c1_i32_145 : BitVec 32 := 1#32
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let v216 : BitVec 32 := Scalar.subi c1_i32_145 v25
  let c32_i32 : BitVec 32 := 32#32
  let v217 : BitVec 32 := Scalar.muli v216 c32_i32
  let v218 : BitVec 32 := Scalar.addi v208 v217
  let c0_i32_151 : BitVec 32 := 0#32
  ![v218.toNat, 0]
def k0_dev11 (d0 : Dev nD) : Nat :=
  let c0_i32_148 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_147 : BitVec 32 := 8#32
  let v219 : BitVec 32 := Scalar.muli v2 c8_i32_147
  let v220 : BitVec 32 := Scalar.addi c0_i32_148 v219
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_149 : BitVec 32 := 4#32
  let v221 : BitVec 32 := Scalar.muli v5 c4_i32_149
  let v222 : BitVec 32 := Scalar.addi v220 v221
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_16 : BitVec 32 := 2#32
  let v38 : BitVec 32 := Scalar.xori v8 c2_i32_16
  let c1_i32_150 : BitVec 32 := 1#32
  let v223 : BitVec 32 := Scalar.muli v38 c1_i32_150
  let v224 : BitVec 32 := Scalar.addi v222 v223
  v224.toNat
def k0_off8 (d0 : Dev nD) : Fin 2 → Nat :=
  let c896_i32_164 : BitVec 32 := 896#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c64_i32_163 : BitVec 32 := 64#32
  let v242 : BitVec 32 := Scalar.muli v25 c64_i32_163
  let v243 : BitVec 32 := Scalar.addi c896_i32_164 v242
  let v244 : Index := Scalar.indexCast v243
  let c0_165 : Index := 0#32
  ![v244.toNat, 0]
def k0_off9 (d0 : Dev nD) : Fin 2 → Nat :=
  let c896_i32_164 : BitVec 32 := 896#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c64_i32_163 : BitVec 32 := 64#32
  let v242 : BitVec 32 := Scalar.muli v25 c64_i32_163
  let v243 : BitVec 32 := Scalar.addi c896_i32_164 v242
  let c1_i32_169 : BitVec 32 := 1#32
  let c2_i32_8 : BitVec 32 := 2#32
  let c0_i32_9 : BitVec 32 := 0#32
  let v26 : BitVec 1 := Scalar.cmpi .eq c2_i32_8 c0_i32_9
  let c1_i32_10 : BitVec 32 := 1#32
  let v27 : BitVec 32 := Scalar.select v26 c1_i32_10 c2_i32_8
  let v28 : BitVec 32 := Scalar.remsi v8 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let v251 : BitVec 32 := Scalar.subi c1_i32_169 v35
  let c32_i32_170 : BitVec 32 := 32#32
  let v252 : BitVec 32 := Scalar.muli v251 c32_i32_170
  let v253 : BitVec 32 := Scalar.addi v243 v252
  let c0_i32_176 : BitVec 32 := 0#32
  ![v253.toNat, 0]
def k0_dev12 (d0 : Dev nD) : Nat :=
  let c0_i32_173 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_172 : BitVec 32 := 8#32
  let v254 : BitVec 32 := Scalar.muli v2 c8_i32_172
  let v255 : BitVec 32 := Scalar.addi c0_i32_173 v254
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_174 : BitVec 32 := 4#32
  let v256 : BitVec 32 := Scalar.muli v5 c4_i32_174
  let v257 : BitVec 32 := Scalar.addi v255 v256
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_17 : BitVec 32 := 1#32
  let v39 : BitVec 32 := Scalar.xori v8 c1_i32_17
  let c1_i32_175 : BitVec 32 := 1#32
  let v258 : BitVec 32 := Scalar.muli v39 c1_i32_175
  let v259 : BitVec 32 := Scalar.addi v257 v258
  v259.toNat
def k0_off10 (d0 : Dev nD) (c0_i32_90 : BitVec 32) (c8_i32 : BitVec 32) (c4_i32 : BitVec 32) : Fin 2 → Nat :=
  let v0 : BitVec 32 := Dev.word d0
  let v1 : BitVec 32 := Scalar.divsi v0 c8_i32
  let c2_i32 : BitVec 32 := 2#32
  let v2 : BitVec 32 := Scalar.remsi v1 c2_i32
  let c192_i32_89 : BitVec 32 := 192#32
  let v137 : BitVec 32 := Scalar.muli v2 c192_i32_89
  let v138 : BitVec 32 := Scalar.addi c0_i32_90 v137
  let v3 : BitVec 32 := Dev.word d0
  let v4 : BitVec 32 := Scalar.divsi v3 c4_i32
  let c2_i32_0 : BitVec 32 := 2#32
  let v5 : BitVec 32 := Scalar.remsi v4 c2_i32_0
  let c96_i32_188 : BitVec 32 := 96#32
  let v277 : BitVec 32 := Scalar.muli v5 c96_i32_188
  let v278 : BitVec 32 := Scalar.addi v138 v277
  let v279 : Index := Scalar.indexCast v278
  let c0_189 : Index := 0#32
  ![v279.toNat, 0]
def k0_off10_at (r : Fin 2) : BitVec 32 × BitVec 32 × BitVec 32 :=
  if r.val < 1 then
    (0#32, 8#32, 4#32)
  else
    (384#32, 4#32, 8#32)
def k0_off11 (d0 : Dev nD) : Fin 2 → Nat :=
  let c0_i32_90 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c192_i32_89 : BitVec 32 := 192#32
  let v137 : BitVec 32 := Scalar.muli v2 c192_i32_89
  let v138 : BitVec 32 := Scalar.addi c0_i32_90 v137
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c96_i32_188 : BitVec 32 := 96#32
  let v277 : BitVec 32 := Scalar.muli v5 c96_i32_188
  let v278 : BitVec 32 := Scalar.addi v138 v277
  let c1_i32_193 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let v286 : BitVec 32 := Scalar.subi c1_i32_193 v25
  let c48_i32 : BitVec 32 := 48#32
  let v287 : BitVec 32 := Scalar.muli v286 c48_i32
  let v288 : BitVec 32 := Scalar.addi v278 v287
  let c0_i32_200 : BitVec 32 := 0#32
  ![v288.toNat, 0]
def k0_dev13 (d0 : Dev nD) : Nat :=
  let c0_i32_197 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_196 : BitVec 32 := 8#32
  let v289 : BitVec 32 := Scalar.muli v2 c8_i32_196
  let v290 : BitVec 32 := Scalar.addi c0_i32_197 v289
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_198 : BitVec 32 := 4#32
  let v291 : BitVec 32 := Scalar.muli v5 c4_i32_198
  let v292 : BitVec 32 := Scalar.addi v290 v291
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_16 : BitVec 32 := 2#32
  let v38 : BitVec 32 := Scalar.xori v8 c2_i32_16
  let c1_i32_199 : BitVec 32 := 1#32
  let v293 : BitVec 32 := Scalar.muli v38 c1_i32_199
  let v294 : BitVec 32 := Scalar.addi v292 v293
  v294.toNat
def k0_off12 (d0 : Dev nD) : Fin 2 → Nat :=
  let c384_i32_115 : BitVec 32 := 384#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c192_i32_114 : BitVec 32 := 192#32
  let v172 : BitVec 32 := Scalar.muli v5 c192_i32_114
  let v173 : BitVec 32 := Scalar.addi c384_i32_115 v172
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c96_i32_212 : BitVec 32 := 96#32
  let v312 : BitVec 32 := Scalar.muli v2 c96_i32_212
  let v313 : BitVec 32 := Scalar.addi v173 v312
  let c1_i32_217 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let c0_i32_9 : BitVec 32 := 0#32
  let v26 : BitVec 1 := Scalar.cmpi .eq c2_i32_8 c0_i32_9
  let c1_i32_10 : BitVec 32 := 1#32
  let v27 : BitVec 32 := Scalar.select v26 c1_i32_10 c2_i32_8
  let v28 : BitVec 32 := Scalar.remsi v8 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let v321 : BitVec 32 := Scalar.subi c1_i32_217 v35
  let c48_i32_218 : BitVec 32 := 48#32
  let v322 : BitVec 32 := Scalar.muli v321 c48_i32_218
  let v323 : BitVec 32 := Scalar.addi v313 v322
  let c0_i32_224 : BitVec 32 := 0#32
  ![v323.toNat, 0]
def k0_dev14 (d0 : Dev nD) : Nat :=
  let c0_i32_221 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_220 : BitVec 32 := 8#32
  let v324 : BitVec 32 := Scalar.muli v2 c8_i32_220
  let v325 : BitVec 32 := Scalar.addi c0_i32_221 v324
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_222 : BitVec 32 := 4#32
  let v326 : BitVec 32 := Scalar.muli v5 c4_i32_222
  let v327 : BitVec 32 := Scalar.addi v325 v326
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_17 : BitVec 32 := 1#32
  let v39 : BitVec 32 := Scalar.xori v8 c1_i32_17
  let c1_i32_223 : BitVec 32 := 1#32
  let v328 : BitVec 32 := Scalar.muli v39 c1_i32_223
  let v329 : BitVec 32 := Scalar.addi v327 v328
  v329.toNat
def k0_off13 (d0 : Dev nD) : Fin 2 → Nat :=
  let c768_i32_140 : BitVec 32 := 768#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let c0_i32_9 : BitVec 32 := 0#32
  let v26 : BitVec 1 := Scalar.cmpi .eq c2_i32_8 c0_i32_9
  let c1_i32_10 : BitVec 32 := 1#32
  let v27 : BitVec 32 := Scalar.select v26 c1_i32_10 c2_i32_8
  let v28 : BitVec 32 := Scalar.remsi v8 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c64_i32_139 : BitVec 32 := 64#32
  let v207 : BitVec 32 := Scalar.muli v35 c64_i32_139
  let v208 : BitVec 32 := Scalar.addi c768_i32_140 v207
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c32_i32_236 : BitVec 32 := 32#32
  let v347 : BitVec 32 := Scalar.muli v25 c32_i32_236
  let v348 : BitVec 32 := Scalar.addi v208 v347
  let v349 : Index := Scalar.indexCast v348
  let c0_237 : Index := 0#32
  ![v349.toNat, 0]
def k0_off14 (d0 : Dev nD) : Fin 2 → Nat :=
  let c768_i32_140 : BitVec 32 := 768#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let c0_i32_9 : BitVec 32 := 0#32
  let v26 : BitVec 1 := Scalar.cmpi .eq c2_i32_8 c0_i32_9
  let c1_i32_10 : BitVec 32 := 1#32
  let v27 : BitVec 32 := Scalar.select v26 c1_i32_10 c2_i32_8
  let v28 : BitVec 32 := Scalar.remsi v8 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c64_i32_139 : BitVec 32 := 64#32
  let v207 : BitVec 32 := Scalar.muli v35 c64_i32_139
  let v208 : BitVec 32 := Scalar.addi c768_i32_140 v207
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c32_i32_236 : BitVec 32 := 32#32
  let v347 : BitVec 32 := Scalar.muli v25 c32_i32_236
  let v348 : BitVec 32 := Scalar.addi v208 v347
  let c1_i32_241 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v356 : BitVec 32 := Scalar.subi c1_i32_241 v2
  let c16_i32_242 : BitVec 32 := 16#32
  let v357 : BitVec 32 := Scalar.muli v356 c16_i32_242
  let v358 : BitVec 32 := Scalar.addi v348 v357
  let c0_i32_248 : BitVec 32 := 0#32
  ![v358.toNat, 0]
def k0_dev15 (d0 : Dev nD) : Nat :=
  let c0_i32_245 : BitVec 32 := 0#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.subi c1_i32_14 v2
  let c8_i32_244 : BitVec 32 := 8#32
  let v359 : BitVec 32 := Scalar.muli v36 c8_i32_244
  let v360 : BitVec 32 := Scalar.addi c0_i32_245 v359
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_246 : BitVec 32 := 4#32
  let v361 : BitVec 32 := Scalar.muli v5 c4_i32_246
  let v362 : BitVec 32 := Scalar.addi v360 v361
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_247 : BitVec 32 := 1#32
  let v363 : BitVec 32 := Scalar.muli v8 c1_i32_247
  let v364 : BitVec 32 := Scalar.addi v362 v363
  v364.toNat
def k0_off15 (d0 : Dev nD) : Fin 2 → Nat :=
  let c896_i32_164 : BitVec 32 := 896#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c64_i32_163 : BitVec 32 := 64#32
  let v242 : BitVec 32 := Scalar.muli v25 c64_i32_163
  let v243 : BitVec 32 := Scalar.addi c896_i32_164 v242
  let c2_i32_8 : BitVec 32 := 2#32
  let c0_i32_9 : BitVec 32 := 0#32
  let v26 : BitVec 1 := Scalar.cmpi .eq c2_i32_8 c0_i32_9
  let c1_i32_10 : BitVec 32 := 1#32
  let v27 : BitVec 32 := Scalar.select v26 c1_i32_10 c2_i32_8
  let v28 : BitVec 32 := Scalar.remsi v8 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c32_i32_260 : BitVec 32 := 32#32
  let v382 : BitVec 32 := Scalar.muli v35 c32_i32_260
  let v383 : BitVec 32 := Scalar.addi v243 v382
  let v384 : Index := Scalar.indexCast v383
  let c0_261 : Index := 0#32
  ![v384.toNat, 0]
def k0_off16 (d0 : Dev nD) : Fin 2 → Nat :=
  let c896_i32_164 : BitVec 32 := 896#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c64_i32_163 : BitVec 32 := 64#32
  let v242 : BitVec 32 := Scalar.muli v25 c64_i32_163
  let v243 : BitVec 32 := Scalar.addi c896_i32_164 v242
  let c2_i32_8 : BitVec 32 := 2#32
  let c0_i32_9 : BitVec 32 := 0#32
  let v26 : BitVec 1 := Scalar.cmpi .eq c2_i32_8 c0_i32_9
  let c1_i32_10 : BitVec 32 := 1#32
  let v27 : BitVec 32 := Scalar.select v26 c1_i32_10 c2_i32_8
  let v28 : BitVec 32 := Scalar.remsi v8 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c32_i32_260 : BitVec 32 := 32#32
  let v382 : BitVec 32 := Scalar.muli v35 c32_i32_260
  let v383 : BitVec 32 := Scalar.addi v243 v382
  let c1_i32_265 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v391 : BitVec 32 := Scalar.subi c1_i32_265 v5
  let c16_i32_266 : BitVec 32 := 16#32
  let v392 : BitVec 32 := Scalar.muli v391 c16_i32_266
  let v393 : BitVec 32 := Scalar.addi v383 v392
  let c0_i32_272 : BitVec 32 := 0#32
  ![v393.toNat, 0]
def k0_dev16 (d0 : Dev nD) : Nat :=
  let c0_i32_269 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_268 : BitVec 32 := 8#32
  let v394 : BitVec 32 := Scalar.muli v2 c8_i32_268
  let v395 : BitVec 32 := Scalar.addi c0_i32_269 v394
  let c1_i32_15 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_15 v5
  let c4_i32_270 : BitVec 32 := 4#32
  let v396 : BitVec 32 := Scalar.muli v37 c4_i32_270
  let v397 : BitVec 32 := Scalar.addi v395 v396
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_271 : BitVec 32 := 1#32
  let v398 : BitVec 32 := Scalar.muli v8 c1_i32_271
  let v399 : BitVec 32 := Scalar.addi v397 v398
  v399.toNat
def k0_off17 (d0 : Dev nD) : Fin 2 → Nat :=
  let c0_i32_90 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c192_i32_89 : BitVec 32 := 192#32
  let v137 : BitVec 32 := Scalar.muli v2 c192_i32_89
  let v138 : BitVec 32 := Scalar.addi c0_i32_90 v137
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c96_i32_188 : BitVec 32 := 96#32
  let v277 : BitVec 32 := Scalar.muli v5 c96_i32_188
  let v278 : BitVec 32 := Scalar.addi v138 v277
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c48_i32_284 : BitVec 32 := 48#32
  let v417 : BitVec 32 := Scalar.muli v25 c48_i32_284
  let v418 : BitVec 32 := Scalar.addi v278 v417
  let v419 : Index := Scalar.indexCast v418
  let c0_285 : Index := 0#32
  ![v419.toNat, 0]
def k0_off18 (d0 : Dev nD) : Fin 2 → Nat :=
  let c0_i32_90 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c192_i32_89 : BitVec 32 := 192#32
  let v137 : BitVec 32 := Scalar.muli v2 c192_i32_89
  let v138 : BitVec 32 := Scalar.addi c0_i32_90 v137
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c96_i32_188 : BitVec 32 := 96#32
  let v277 : BitVec 32 := Scalar.muli v5 c96_i32_188
  let v278 : BitVec 32 := Scalar.addi v138 v277
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c48_i32_284 : BitVec 32 := 48#32
  let v417 : BitVec 32 := Scalar.muli v25 c48_i32_284
  let v418 : BitVec 32 := Scalar.addi v278 v417
  let c1_i32_289 : BitVec 32 := 1#32
  let c2_i32_8 : BitVec 32 := 2#32
  let c0_i32_9 : BitVec 32 := 0#32
  let v26 : BitVec 1 := Scalar.cmpi .eq c2_i32_8 c0_i32_9
  let c1_i32_10 : BitVec 32 := 1#32
  let v27 : BitVec 32 := Scalar.select v26 c1_i32_10 c2_i32_8
  let v28 : BitVec 32 := Scalar.remsi v8 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let v426 : BitVec 32 := Scalar.subi c1_i32_289 v35
  let c24_i32_290 : BitVec 32 := 24#32
  let v427 : BitVec 32 := Scalar.muli v426 c24_i32_290
  let v428 : BitVec 32 := Scalar.addi v418 v427
  let c0_i32_296 : BitVec 32 := 0#32
  ![v428.toNat, 0]
def k0_dev17 (d0 : Dev nD) : Nat :=
  let c0_i32_293 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_292 : BitVec 32 := 8#32
  let v429 : BitVec 32 := Scalar.muli v2 c8_i32_292
  let v430 : BitVec 32 := Scalar.addi c0_i32_293 v429
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_294 : BitVec 32 := 4#32
  let v431 : BitVec 32 := Scalar.muli v5 c4_i32_294
  let v432 : BitVec 32 := Scalar.addi v430 v431
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_17 : BitVec 32 := 1#32
  let v39 : BitVec 32 := Scalar.xori v8 c1_i32_17
  let c1_i32_295 : BitVec 32 := 1#32
  let v433 : BitVec 32 := Scalar.muli v39 c1_i32_295
  let v434 : BitVec 32 := Scalar.addi v432 v433
  v434.toNat
def k0_off19 (d0 : Dev nD) : Fin 2 → Nat :=
  let c384_i32_115 : BitVec 32 := 384#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c192_i32_114 : BitVec 32 := 192#32
  let v172 : BitVec 32 := Scalar.muli v5 c192_i32_114
  let v173 : BitVec 32 := Scalar.addi c384_i32_115 v172
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c96_i32_212 : BitVec 32 := 96#32
  let v312 : BitVec 32 := Scalar.muli v2 c96_i32_212
  let v313 : BitVec 32 := Scalar.addi v173 v312
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let c0_i32_9 : BitVec 32 := 0#32
  let v26 : BitVec 1 := Scalar.cmpi .eq c2_i32_8 c0_i32_9
  let c1_i32_10 : BitVec 32 := 1#32
  let v27 : BitVec 32 := Scalar.select v26 c1_i32_10 c2_i32_8
  let v28 : BitVec 32 := Scalar.remsi v8 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c48_i32_308 : BitVec 32 := 48#32
  let v452 : BitVec 32 := Scalar.muli v35 c48_i32_308
  let v453 : BitVec 32 := Scalar.addi v313 v452
  let v454 : Index := Scalar.indexCast v453
  let c0_309 : Index := 0#32
  ![v454.toNat, 0]
def k0_off20 (d0 : Dev nD) : Fin 2 → Nat :=
  let c384_i32_115 : BitVec 32 := 384#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c192_i32_114 : BitVec 32 := 192#32
  let v172 : BitVec 32 := Scalar.muli v5 c192_i32_114
  let v173 : BitVec 32 := Scalar.addi c384_i32_115 v172
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c96_i32_212 : BitVec 32 := 96#32
  let v312 : BitVec 32 := Scalar.muli v2 c96_i32_212
  let v313 : BitVec 32 := Scalar.addi v173 v312
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let c0_i32_9 : BitVec 32 := 0#32
  let v26 : BitVec 1 := Scalar.cmpi .eq c2_i32_8 c0_i32_9
  let c1_i32_10 : BitVec 32 := 1#32
  let v27 : BitVec 32 := Scalar.select v26 c1_i32_10 c2_i32_8
  let v28 : BitVec 32 := Scalar.remsi v8 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c48_i32_308 : BitVec 32 := 48#32
  let v452 : BitVec 32 := Scalar.muli v35 c48_i32_308
  let v453 : BitVec 32 := Scalar.addi v313 v452
  let c1_i32_313 : BitVec 32 := 1#32
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let v461 : BitVec 32 := Scalar.subi c1_i32_313 v25
  let c24_i32_314 : BitVec 32 := 24#32
  let v462 : BitVec 32 := Scalar.muli v461 c24_i32_314
  let v463 : BitVec 32 := Scalar.addi v453 v462
  let c0_i32_320 : BitVec 32 := 0#32
  ![v463.toNat, 0]
def k0_dev18 (d0 : Dev nD) : Nat :=
  let c0_i32_317 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_316 : BitVec 32 := 8#32
  let v464 : BitVec 32 := Scalar.muli v2 c8_i32_316
  let v465 : BitVec 32 := Scalar.addi c0_i32_317 v464
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_318 : BitVec 32 := 4#32
  let v466 : BitVec 32 := Scalar.muli v5 c4_i32_318
  let v467 : BitVec 32 := Scalar.addi v465 v466
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_16 : BitVec 32 := 2#32
  let v38 : BitVec 32 := Scalar.xori v8 c2_i32_16
  let c1_i32_319 : BitVec 32 := 1#32
  let v468 : BitVec 32 := Scalar.muli v38 c1_i32_319
  let v469 : BitVec 32 := Scalar.addi v467 v468
  v469.toNat
def k0_off21 (d0 : Dev nD) : Fin 2 → Nat :=
  let c768_i32_140 : BitVec 32 := 768#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let c0_i32_9 : BitVec 32 := 0#32
  let v26 : BitVec 1 := Scalar.cmpi .eq c2_i32_8 c0_i32_9
  let c1_i32_10 : BitVec 32 := 1#32
  let v27 : BitVec 32 := Scalar.select v26 c1_i32_10 c2_i32_8
  let v28 : BitVec 32 := Scalar.remsi v8 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c64_i32_139 : BitVec 32 := 64#32
  let v207 : BitVec 32 := Scalar.muli v35 c64_i32_139
  let v208 : BitVec 32 := Scalar.addi c768_i32_140 v207
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c32_i32_236 : BitVec 32 := 32#32
  let v347 : BitVec 32 := Scalar.muli v25 c32_i32_236
  let v348 : BitVec 32 := Scalar.addi v208 v347
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c16_i32_332 : BitVec 32 := 16#32
  let v487 : BitVec 32 := Scalar.muli v2 c16_i32_332
  let v488 : BitVec 32 := Scalar.addi v348 v487
  let v489 : Index := Scalar.indexCast v488
  let c0_333 : Index := 0#32
  ![v489.toNat, 0]
def k0_off22 (d0 : Dev nD) : Fin 2 → Nat :=
  let c768_i32_140 : BitVec 32 := 768#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let c0_i32_9 : BitVec 32 := 0#32
  let v26 : BitVec 1 := Scalar.cmpi .eq c2_i32_8 c0_i32_9
  let c1_i32_10 : BitVec 32 := 1#32
  let v27 : BitVec 32 := Scalar.select v26 c1_i32_10 c2_i32_8
  let v28 : BitVec 32 := Scalar.remsi v8 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c64_i32_139 : BitVec 32 := 64#32
  let v207 : BitVec 32 := Scalar.muli v35 c64_i32_139
  let v208 : BitVec 32 := Scalar.addi c768_i32_140 v207
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c32_i32_236 : BitVec 32 := 32#32
  let v347 : BitVec 32 := Scalar.muli v25 c32_i32_236
  let v348 : BitVec 32 := Scalar.addi v208 v347
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c16_i32_332 : BitVec 32 := 16#32
  let v487 : BitVec 32 := Scalar.muli v2 c16_i32_332
  let v488 : BitVec 32 := Scalar.addi v348 v487
  let c1_i32_337 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v496 : BitVec 32 := Scalar.subi c1_i32_337 v5
  let c8_i32_338 : BitVec 32 := 8#32
  let v497 : BitVec 32 := Scalar.muli v496 c8_i32_338
  let v498 : BitVec 32 := Scalar.addi v488 v497
  let c0_i32_344 : BitVec 32 := 0#32
  ![v498.toNat, 0]
def k0_dev19 (d0 : Dev nD) : Nat :=
  let c0_i32_341 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_340 : BitVec 32 := 8#32
  let v499 : BitVec 32 := Scalar.muli v2 c8_i32_340
  let v500 : BitVec 32 := Scalar.addi c0_i32_341 v499
  let c1_i32_15 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_15 v5
  let c4_i32_342 : BitVec 32 := 4#32
  let v501 : BitVec 32 := Scalar.muli v37 c4_i32_342
  let v502 : BitVec 32 := Scalar.addi v500 v501
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_343 : BitVec 32 := 1#32
  let v503 : BitVec 32 := Scalar.muli v8 c1_i32_343
  let v504 : BitVec 32 := Scalar.addi v502 v503
  v504.toNat
def k0_off23 (d0 : Dev nD) : Fin 2 → Nat :=
  let c896_i32_164 : BitVec 32 := 896#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c64_i32_163 : BitVec 32 := 64#32
  let v242 : BitVec 32 := Scalar.muli v25 c64_i32_163
  let v243 : BitVec 32 := Scalar.addi c896_i32_164 v242
  let c2_i32_8 : BitVec 32 := 2#32
  let c0_i32_9 : BitVec 32 := 0#32
  let v26 : BitVec 1 := Scalar.cmpi .eq c2_i32_8 c0_i32_9
  let c1_i32_10 : BitVec 32 := 1#32
  let v27 : BitVec 32 := Scalar.select v26 c1_i32_10 c2_i32_8
  let v28 : BitVec 32 := Scalar.remsi v8 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c32_i32_260 : BitVec 32 := 32#32
  let v382 : BitVec 32 := Scalar.muli v35 c32_i32_260
  let v383 : BitVec 32 := Scalar.addi v243 v382
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c16_i32_356 : BitVec 32 := 16#32
  let v522 : BitVec 32 := Scalar.muli v5 c16_i32_356
  let v523 : BitVec 32 := Scalar.addi v383 v522
  let v524 : Index := Scalar.indexCast v523
  let c0_357 : Index := 0#32
  ![v524.toNat, 0]
def k0_off24 (d0 : Dev nD) : Fin 2 → Nat :=
  let c896_i32_164 : BitVec 32 := 896#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c64_i32_163 : BitVec 32 := 64#32
  let v242 : BitVec 32 := Scalar.muli v25 c64_i32_163
  let v243 : BitVec 32 := Scalar.addi c896_i32_164 v242
  let c2_i32_8 : BitVec 32 := 2#32
  let c0_i32_9 : BitVec 32 := 0#32
  let v26 : BitVec 1 := Scalar.cmpi .eq c2_i32_8 c0_i32_9
  let c1_i32_10 : BitVec 32 := 1#32
  let v27 : BitVec 32 := Scalar.select v26 c1_i32_10 c2_i32_8
  let v28 : BitVec 32 := Scalar.remsi v8 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c32_i32_260 : BitVec 32 := 32#32
  let v382 : BitVec 32 := Scalar.muli v35 c32_i32_260
  let v383 : BitVec 32 := Scalar.addi v243 v382
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c16_i32_356 : BitVec 32 := 16#32
  let v522 : BitVec 32 := Scalar.muli v5 c16_i32_356
  let v523 : BitVec 32 := Scalar.addi v383 v522
  let c1_i32_361 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v531 : BitVec 32 := Scalar.subi c1_i32_361 v2
  let c8_i32_362 : BitVec 32 := 8#32
  let v532 : BitVec 32 := Scalar.muli v531 c8_i32_362
  let v533 : BitVec 32 := Scalar.addi v523 v532
  let c0_i32_368 : BitVec 32 := 0#32
  ![v533.toNat, 0]
def k0_dev20 (d0 : Dev nD) : Nat :=
  let c0_i32_365 : BitVec 32 := 0#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.subi c1_i32_14 v2
  let c8_i32_364 : BitVec 32 := 8#32
  let v534 : BitVec 32 := Scalar.muli v36 c8_i32_364
  let v535 : BitVec 32 := Scalar.addi c0_i32_365 v534
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_366 : BitVec 32 := 4#32
  let v536 : BitVec 32 := Scalar.muli v5 c4_i32_366
  let v537 : BitVec 32 := Scalar.addi v535 v536
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v538 : BitVec 32 := Scalar.muli v8 c1_i32_367
  let v539 : BitVec 32 := Scalar.addi v537 v538
  v539.toNat
def k0_off25 (d0 : Dev nD) : Fin 2 → Nat :=
  let c0_i32_90 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c192_i32_89 : BitVec 32 := 192#32
  let v137 : BitVec 32 := Scalar.muli v2 c192_i32_89
  let v138 : BitVec 32 := Scalar.addi c0_i32_90 v137
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c96_i32_188 : BitVec 32 := 96#32
  let v277 : BitVec 32 := Scalar.muli v5 c96_i32_188
  let v278 : BitVec 32 := Scalar.addi v138 v277
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c48_i32_284 : BitVec 32 := 48#32
  let v417 : BitVec 32 := Scalar.muli v25 c48_i32_284
  let v418 : BitVec 32 := Scalar.addi v278 v417
  let c2_i32_8 : BitVec 32 := 2#32
  let c0_i32_9 : BitVec 32 := 0#32
  let v26 : BitVec 1 := Scalar.cmpi .eq c2_i32_8 c0_i32_9
  let c1_i32_10 : BitVec 32 := 1#32
  let v27 : BitVec 32 := Scalar.select v26 c1_i32_10 c2_i32_8
  let v28 : BitVec 32 := Scalar.remsi v8 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c24_i32_380 : BitVec 32 := 24#32
  let v557 : BitVec 32 := Scalar.muli v35 c24_i32_380
  let v558 : BitVec 32 := Scalar.addi v418 v557
  let v559 : Index := Scalar.indexCast v558
  let c0_381 : Index := 0#32
  ![v559.toNat, 0]
def k0_off26 (d0 : Dev nD) : Fin 2 → Nat :=
  let c0_i32_90 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c192_i32_89 : BitVec 32 := 192#32
  let v137 : BitVec 32 := Scalar.muli v2 c192_i32_89
  let v138 : BitVec 32 := Scalar.addi c0_i32_90 v137
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c96_i32_188 : BitVec 32 := 96#32
  let v277 : BitVec 32 := Scalar.muli v5 c96_i32_188
  let v278 : BitVec 32 := Scalar.addi v138 v277
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c48_i32_284 : BitVec 32 := 48#32
  let v417 : BitVec 32 := Scalar.muli v25 c48_i32_284
  let v418 : BitVec 32 := Scalar.addi v278 v417
  let c2_i32_8 : BitVec 32 := 2#32
  let c0_i32_9 : BitVec 32 := 0#32
  let v26 : BitVec 1 := Scalar.cmpi .eq c2_i32_8 c0_i32_9
  let c1_i32_10 : BitVec 32 := 1#32
  let v27 : BitVec 32 := Scalar.select v26 c1_i32_10 c2_i32_8
  let v28 : BitVec 32 := Scalar.remsi v8 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c24_i32_380 : BitVec 32 := 24#32
  let v557 : BitVec 32 := Scalar.muli v35 c24_i32_380
  let v558 : BitVec 32 := Scalar.addi v418 v557
  let c0_i32_390 : BitVec 32 := 0#32
  ![v558.toNat, 0]
def k0_dev21 (d0 : Dev nD) : Nat :=
  let c0_i32_387 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_386 : BitVec 32 := 8#32
  let v566 : BitVec 32 := Scalar.muli v2 c8_i32_386
  let v567 : BitVec 32 := Scalar.addi c0_i32_387 v566
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_388 : BitVec 32 := 4#32
  let v568 : BitVec 32 := Scalar.muli v5 c4_i32_388
  let v569 : BitVec 32 := Scalar.addi v567 v568
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_17 : BitVec 32 := 1#32
  let v39 : BitVec 32 := Scalar.xori v8 c1_i32_17
  let c1_i32_389 : BitVec 32 := 1#32
  let v570 : BitVec 32 := Scalar.muli v39 c1_i32_389
  let v571 : BitVec 32 := Scalar.addi v569 v570
  v571.toNat
def k0_off27 (d0 : Dev nD) : Fin 2 → Nat :=
  let c384_i32_115 : BitVec 32 := 384#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c192_i32_114 : BitVec 32 := 192#32
  let v172 : BitVec 32 := Scalar.muli v5 c192_i32_114
  let v173 : BitVec 32 := Scalar.addi c384_i32_115 v172
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c96_i32_212 : BitVec 32 := 96#32
  let v312 : BitVec 32 := Scalar.muli v2 c96_i32_212
  let v313 : BitVec 32 := Scalar.addi v173 v312
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let c0_i32_9 : BitVec 32 := 0#32
  let v26 : BitVec 1 := Scalar.cmpi .eq c2_i32_8 c0_i32_9
  let c1_i32_10 : BitVec 32 := 1#32
  let v27 : BitVec 32 := Scalar.select v26 c1_i32_10 c2_i32_8
  let v28 : BitVec 32 := Scalar.remsi v8 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c48_i32_308 : BitVec 32 := 48#32
  let v452 : BitVec 32 := Scalar.muli v35 c48_i32_308
  let v453 : BitVec 32 := Scalar.addi v313 v452
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c24_i32_403 : BitVec 32 := 24#32
  let v590 : BitVec 32 := Scalar.muli v25 c24_i32_403
  let v591 : BitVec 32 := Scalar.addi v453 v590
  let v592 : Index := Scalar.indexCast v591
  let c0_404 : Index := 0#32
  ![v592.toNat, 0]
def k0_off28 (d0 : Dev nD) : Fin 2 → Nat :=
  let c384_i32_115 : BitVec 32 := 384#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c192_i32_114 : BitVec 32 := 192#32
  let v172 : BitVec 32 := Scalar.muli v5 c192_i32_114
  let v173 : BitVec 32 := Scalar.addi c384_i32_115 v172
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c96_i32_212 : BitVec 32 := 96#32
  let v312 : BitVec 32 := Scalar.muli v2 c96_i32_212
  let v313 : BitVec 32 := Scalar.addi v173 v312
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let c0_i32_9 : BitVec 32 := 0#32
  let v26 : BitVec 1 := Scalar.cmpi .eq c2_i32_8 c0_i32_9
  let c1_i32_10 : BitVec 32 := 1#32
  let v27 : BitVec 32 := Scalar.select v26 c1_i32_10 c2_i32_8
  let v28 : BitVec 32 := Scalar.remsi v8 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c48_i32_308 : BitVec 32 := 48#32
  let v452 : BitVec 32 := Scalar.muli v35 c48_i32_308
  let v453 : BitVec 32 := Scalar.addi v313 v452
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c24_i32_403 : BitVec 32 := 24#32
  let v590 : BitVec 32 := Scalar.muli v25 c24_i32_403
  let v591 : BitVec 32 := Scalar.addi v453 v590
  let c0_i32_413 : BitVec 32 := 0#32
  ![v591.toNat, 0]
def k0_dev22 (d0 : Dev nD) : Nat :=
  let c0_i32_410 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_409 : BitVec 32 := 8#32
  let v599 : BitVec 32 := Scalar.muli v2 c8_i32_409
  let v600 : BitVec 32 := Scalar.addi c0_i32_410 v599
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_411 : BitVec 32 := 4#32
  let v601 : BitVec 32 := Scalar.muli v5 c4_i32_411
  let v602 : BitVec 32 := Scalar.addi v600 v601
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_16 : BitVec 32 := 2#32
  let v38 : BitVec 32 := Scalar.xori v8 c2_i32_16
  let c1_i32_412 : BitVec 32 := 1#32
  let v603 : BitVec 32 := Scalar.muli v38 c1_i32_412
  let v604 : BitVec 32 := Scalar.addi v602 v603
  v604.toNat
def k0_off29 (d0 : Dev nD) : Fin 2 → Nat :=
  let c768_i32_140 : BitVec 32 := 768#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let c0_i32_9 : BitVec 32 := 0#32
  let v26 : BitVec 1 := Scalar.cmpi .eq c2_i32_8 c0_i32_9
  let c1_i32_10 : BitVec 32 := 1#32
  let v27 : BitVec 32 := Scalar.select v26 c1_i32_10 c2_i32_8
  let v28 : BitVec 32 := Scalar.remsi v8 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c64_i32_139 : BitVec 32 := 64#32
  let v207 : BitVec 32 := Scalar.muli v35 c64_i32_139
  let v208 : BitVec 32 := Scalar.addi c768_i32_140 v207
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c32_i32_236 : BitVec 32 := 32#32
  let v347 : BitVec 32 := Scalar.muli v25 c32_i32_236
  let v348 : BitVec 32 := Scalar.addi v208 v347
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c16_i32_332 : BitVec 32 := 16#32
  let v487 : BitVec 32 := Scalar.muli v2 c16_i32_332
  let v488 : BitVec 32 := Scalar.addi v348 v487
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c8_i32_426 : BitVec 32 := 8#32
  let v623 : BitVec 32 := Scalar.muli v5 c8_i32_426
  let v624 : BitVec 32 := Scalar.addi v488 v623
  let v625 : Index := Scalar.indexCast v624
  let c0_427 : Index := 0#32
  ![v625.toNat, 0]
def k0_off30 (d0 : Dev nD) : Fin 2 → Nat :=
  let c768_i32_140 : BitVec 32 := 768#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let c0_i32_9 : BitVec 32 := 0#32
  let v26 : BitVec 1 := Scalar.cmpi .eq c2_i32_8 c0_i32_9
  let c1_i32_10 : BitVec 32 := 1#32
  let v27 : BitVec 32 := Scalar.select v26 c1_i32_10 c2_i32_8
  let v28 : BitVec 32 := Scalar.remsi v8 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c64_i32_139 : BitVec 32 := 64#32
  let v207 : BitVec 32 := Scalar.muli v35 c64_i32_139
  let v208 : BitVec 32 := Scalar.addi c768_i32_140 v207
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c32_i32_236 : BitVec 32 := 32#32
  let v347 : BitVec 32 := Scalar.muli v25 c32_i32_236
  let v348 : BitVec 32 := Scalar.addi v208 v347
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c16_i32_332 : BitVec 32 := 16#32
  let v487 : BitVec 32 := Scalar.muli v2 c16_i32_332
  let v488 : BitVec 32 := Scalar.addi v348 v487
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c8_i32_426 : BitVec 32 := 8#32
  let v623 : BitVec 32 := Scalar.muli v5 c8_i32_426
  let v624 : BitVec 32 := Scalar.addi v488 v623
  let c0_i32_436 : BitVec 32 := 0#32
  ![v624.toNat, 0]
def k0_dev23 (d0 : Dev nD) : Nat :=
  let c0_i32_433 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_432 : BitVec 32 := 8#32
  let v632 : BitVec 32 := Scalar.muli v2 c8_i32_432
  let v633 : BitVec 32 := Scalar.addi c0_i32_433 v632
  let c1_i32_15 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_15 v5
  let c4_i32_434 : BitVec 32 := 4#32
  let v634 : BitVec 32 := Scalar.muli v37 c4_i32_434
  let v635 : BitVec 32 := Scalar.addi v633 v634
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_435 : BitVec 32 := 1#32
  let v636 : BitVec 32 := Scalar.muli v8 c1_i32_435
  let v637 : BitVec 32 := Scalar.addi v635 v636
  v637.toNat
def k0_off31 (d0 : Dev nD) : Fin 2 → Nat :=
  let c896_i32_164 : BitVec 32 := 896#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c64_i32_163 : BitVec 32 := 64#32
  let v242 : BitVec 32 := Scalar.muli v25 c64_i32_163
  let v243 : BitVec 32 := Scalar.addi c896_i32_164 v242
  let c2_i32_8 : BitVec 32 := 2#32
  let c0_i32_9 : BitVec 32 := 0#32
  let v26 : BitVec 1 := Scalar.cmpi .eq c2_i32_8 c0_i32_9
  let c1_i32_10 : BitVec 32 := 1#32
  let v27 : BitVec 32 := Scalar.select v26 c1_i32_10 c2_i32_8
  let v28 : BitVec 32 := Scalar.remsi v8 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c32_i32_260 : BitVec 32 := 32#32
  let v382 : BitVec 32 := Scalar.muli v35 c32_i32_260
  let v383 : BitVec 32 := Scalar.addi v243 v382
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c16_i32_356 : BitVec 32 := 16#32
  let v522 : BitVec 32 := Scalar.muli v5 c16_i32_356
  let v523 : BitVec 32 := Scalar.addi v383 v522
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_449 : BitVec 32 := 8#32
  let v656 : BitVec 32 := Scalar.muli v2 c8_i32_449
  let v657 : BitVec 32 := Scalar.addi v523 v656
  let v658 : Index := Scalar.indexCast v657
  let c0_450 : Index := 0#32
  ![v658.toNat, 0]
def k0_off32 (d0 : Dev nD) : Fin 2 → Nat :=
  let c896_i32_164 : BitVec 32 := 896#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c64_i32_163 : BitVec 32 := 64#32
  let v242 : BitVec 32 := Scalar.muli v25 c64_i32_163
  let v243 : BitVec 32 := Scalar.addi c896_i32_164 v242
  let c2_i32_8 : BitVec 32 := 2#32
  let c0_i32_9 : BitVec 32 := 0#32
  let v26 : BitVec 1 := Scalar.cmpi .eq c2_i32_8 c0_i32_9
  let c1_i32_10 : BitVec 32 := 1#32
  let v27 : BitVec 32 := Scalar.select v26 c1_i32_10 c2_i32_8
  let v28 : BitVec 32 := Scalar.remsi v8 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c32_i32_260 : BitVec 32 := 32#32
  let v382 : BitVec 32 := Scalar.muli v35 c32_i32_260
  let v383 : BitVec 32 := Scalar.addi v243 v382
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c16_i32_356 : BitVec 32 := 16#32
  let v522 : BitVec 32 := Scalar.muli v5 c16_i32_356
  let v523 : BitVec 32 := Scalar.addi v383 v522
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_449 : BitVec 32 := 8#32
  let v656 : BitVec 32 := Scalar.muli v2 c8_i32_449
  let v657 : BitVec 32 := Scalar.addi v523 v656
  let c0_i32_459 : BitVec 32 := 0#32
  ![v657.toNat, 0]
def k0_dev24 (d0 : Dev nD) : Nat :=
  let c0_i32_456 : BitVec 32 := 0#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.subi c1_i32_14 v2
  let c8_i32_455 : BitVec 32 := 8#32
  let v665 : BitVec 32 := Scalar.muli v36 c8_i32_455
  let v666 : BitVec 32 := Scalar.addi c0_i32_456 v665
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_457 : BitVec 32 := 4#32
  let v667 : BitVec 32 := Scalar.muli v5 c4_i32_457
  let v668 : BitVec 32 := Scalar.addi v666 v667
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_458 : BitVec 32 := 1#32
  let v669 : BitVec 32 := Scalar.muli v8 c1_i32_458
  let v670 : BitVec 32 := Scalar.addi v668 v669
  v670.toNat
def k0_off33 (d0 : Dev nD) : Fin 2 → Nat :=
  let c0_i32_90 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c192_i32_89 : BitVec 32 := 192#32
  let v137 : BitVec 32 := Scalar.muli v2 c192_i32_89
  let v138 : BitVec 32 := Scalar.addi c0_i32_90 v137
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c96_i32_188 : BitVec 32 := 96#32
  let v277 : BitVec 32 := Scalar.muli v5 c96_i32_188
  let v278 : BitVec 32 := Scalar.addi v138 v277
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c48_i32_284 : BitVec 32 := 48#32
  let v417 : BitVec 32 := Scalar.muli v25 c48_i32_284
  let v418 : BitVec 32 := Scalar.addi v278 v417
  let c2_i32_8 : BitVec 32 := 2#32
  let c0_i32_9 : BitVec 32 := 0#32
  let v26 : BitVec 1 := Scalar.cmpi .eq c2_i32_8 c0_i32_9
  let c1_i32_10 : BitVec 32 := 1#32
  let v27 : BitVec 32 := Scalar.select v26 c1_i32_10 c2_i32_8
  let v28 : BitVec 32 := Scalar.remsi v8 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c24_i32_380 : BitVec 32 := 24#32
  let v557 : BitVec 32 := Scalar.muli v35 c24_i32_380
  let v558 : BitVec 32 := Scalar.addi v418 v557
  let c24_i32_474 : BitVec 32 := 24#32
  let v691 : BitVec 32 := Scalar.muli v35 c24_i32_474
  let v692 : BitVec 32 := Scalar.subi v558 v691
  let c0_i32_480 : BitVec 32 := 0#32
  ![v692.toNat, 0]
def k0_dev25 (d0 : Dev nD) : Nat :=
  let c0_i32_477 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_476 : BitVec 32 := 8#32
  let v693 : BitVec 32 := Scalar.muli v2 c8_i32_476
  let v694 : BitVec 32 := Scalar.addi c0_i32_477 v693
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_478 : BitVec 32 := 4#32
  let v695 : BitVec 32 := Scalar.muli v5 c4_i32_478
  let v696 : BitVec 32 := Scalar.addi v694 v695
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_16 : BitVec 32 := 2#32
  let v38 : BitVec 32 := Scalar.xori v8 c2_i32_16
  let c1_i32_479 : BitVec 32 := 1#32
  let v697 : BitVec 32 := Scalar.muli v38 c1_i32_479
  let v698 : BitVec 32 := Scalar.addi v696 v697
  v698.toNat
def k0_off34 (d0 : Dev nD) : Fin 2 → Nat :=
  let c384_i32_115 : BitVec 32 := 384#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c192_i32_114 : BitVec 32 := 192#32
  let v172 : BitVec 32 := Scalar.muli v5 c192_i32_114
  let v173 : BitVec 32 := Scalar.addi c384_i32_115 v172
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c96_i32_212 : BitVec 32 := 96#32
  let v312 : BitVec 32 := Scalar.muli v2 c96_i32_212
  let v313 : BitVec 32 := Scalar.addi v173 v312
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let c0_i32_9 : BitVec 32 := 0#32
  let v26 : BitVec 1 := Scalar.cmpi .eq c2_i32_8 c0_i32_9
  let c1_i32_10 : BitVec 32 := 1#32
  let v27 : BitVec 32 := Scalar.select v26 c1_i32_10 c2_i32_8
  let v28 : BitVec 32 := Scalar.remsi v8 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c48_i32_308 : BitVec 32 := 48#32
  let v452 : BitVec 32 := Scalar.muli v35 c48_i32_308
  let v453 : BitVec 32 := Scalar.addi v313 v452
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c24_i32_403 : BitVec 32 := 24#32
  let v590 : BitVec 32 := Scalar.muli v25 c24_i32_403
  let v591 : BitVec 32 := Scalar.addi v453 v590
  let c24_i32_495 : BitVec 32 := 24#32
  let v719 : BitVec 32 := Scalar.muli v25 c24_i32_495
  let v720 : BitVec 32 := Scalar.subi v591 v719
  let c0_i32_501 : BitVec 32 := 0#32
  ![v720.toNat, 0]
def k0_dev26 (d0 : Dev nD) : Nat :=
  let c0_i32_498 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_497 : BitVec 32 := 8#32
  let v721 : BitVec 32 := Scalar.muli v2 c8_i32_497
  let v722 : BitVec 32 := Scalar.addi c0_i32_498 v721
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_499 : BitVec 32 := 4#32
  let v723 : BitVec 32 := Scalar.muli v5 c4_i32_499
  let v724 : BitVec 32 := Scalar.addi v722 v723
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_17 : BitVec 32 := 1#32
  let v39 : BitVec 32 := Scalar.xori v8 c1_i32_17
  let c1_i32_500 : BitVec 32 := 1#32
  let v725 : BitVec 32 := Scalar.muli v39 c1_i32_500
  let v726 : BitVec 32 := Scalar.addi v724 v725
  v726.toNat
def k0_off35 (d0 : Dev nD) : Fin 2 → Nat :=
  let c768_i32_140 : BitVec 32 := 768#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let c0_i32_9 : BitVec 32 := 0#32
  let v26 : BitVec 1 := Scalar.cmpi .eq c2_i32_8 c0_i32_9
  let c1_i32_10 : BitVec 32 := 1#32
  let v27 : BitVec 32 := Scalar.select v26 c1_i32_10 c2_i32_8
  let v28 : BitVec 32 := Scalar.remsi v8 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c64_i32_139 : BitVec 32 := 64#32
  let v207 : BitVec 32 := Scalar.muli v35 c64_i32_139
  let v208 : BitVec 32 := Scalar.addi c768_i32_140 v207
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c32_i32_236 : BitVec 32 := 32#32
  let v347 : BitVec 32 := Scalar.muli v25 c32_i32_236
  let v348 : BitVec 32 := Scalar.addi v208 v347
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c16_i32_332 : BitVec 32 := 16#32
  let v487 : BitVec 32 := Scalar.muli v2 c16_i32_332
  let v488 : BitVec 32 := Scalar.addi v348 v487
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c8_i32_426 : BitVec 32 := 8#32
  let v623 : BitVec 32 := Scalar.muli v5 c8_i32_426
  let v624 : BitVec 32 := Scalar.addi v488 v623
  let c8_i32_516 : BitVec 32 := 8#32
  let v747 : BitVec 32 := Scalar.muli v5 c8_i32_516
  let v748 : BitVec 32 := Scalar.subi v624 v747
  let c0_i32_522 : BitVec 32 := 0#32
  ![v748.toNat, 0]
def k0_dev27 (d0 : Dev nD) : Nat :=
  let c0_i32_519 : BitVec 32 := 0#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.subi c1_i32_14 v2
  let c8_i32_518 : BitVec 32 := 8#32
  let v749 : BitVec 32 := Scalar.muli v36 c8_i32_518
  let v750 : BitVec 32 := Scalar.addi c0_i32_519 v749
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_520 : BitVec 32 := 4#32
  let v751 : BitVec 32 := Scalar.muli v5 c4_i32_520
  let v752 : BitVec 32 := Scalar.addi v750 v751
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_521 : BitVec 32 := 1#32
  let v753 : BitVec 32 := Scalar.muli v8 c1_i32_521
  let v754 : BitVec 32 := Scalar.addi v752 v753
  v754.toNat
def k0_off36 (d0 : Dev nD) : Fin 2 → Nat :=
  let c896_i32_164 : BitVec 32 := 896#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c64_i32_163 : BitVec 32 := 64#32
  let v242 : BitVec 32 := Scalar.muli v25 c64_i32_163
  let v243 : BitVec 32 := Scalar.addi c896_i32_164 v242
  let c2_i32_8 : BitVec 32 := 2#32
  let c0_i32_9 : BitVec 32 := 0#32
  let v26 : BitVec 1 := Scalar.cmpi .eq c2_i32_8 c0_i32_9
  let c1_i32_10 : BitVec 32 := 1#32
  let v27 : BitVec 32 := Scalar.select v26 c1_i32_10 c2_i32_8
  let v28 : BitVec 32 := Scalar.remsi v8 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c32_i32_260 : BitVec 32 := 32#32
  let v382 : BitVec 32 := Scalar.muli v35 c32_i32_260
  let v383 : BitVec 32 := Scalar.addi v243 v382
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c16_i32_356 : BitVec 32 := 16#32
  let v522 : BitVec 32 := Scalar.muli v5 c16_i32_356
  let v523 : BitVec 32 := Scalar.addi v383 v522
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_449 : BitVec 32 := 8#32
  let v656 : BitVec 32 := Scalar.muli v2 c8_i32_449
  let v657 : BitVec 32 := Scalar.addi v523 v656
  let c8_i32_537 : BitVec 32 := 8#32
  let v775 : BitVec 32 := Scalar.muli v2 c8_i32_537
  let v776 : BitVec 32 := Scalar.subi v657 v775
  let c0_i32_543 : BitVec 32 := 0#32
  ![v776.toNat, 0]
def k0_dev28 (d0 : Dev nD) : Nat :=
  let c0_i32_540 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_539 : BitVec 32 := 8#32
  let v777 : BitVec 32 := Scalar.muli v2 c8_i32_539
  let v778 : BitVec 32 := Scalar.addi c0_i32_540 v777
  let c1_i32_15 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_15 v5
  let c4_i32_541 : BitVec 32 := 4#32
  let v779 : BitVec 32 := Scalar.muli v37 c4_i32_541
  let v780 : BitVec 32 := Scalar.addi v778 v779
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_542 : BitVec 32 := 1#32
  let v781 : BitVec 32 := Scalar.muli v8 c1_i32_542
  let v782 : BitVec 32 := Scalar.addi v780 v781
  v782.toNat
def k0_off37 (d0 : Dev nD) : Fin 2 → Nat :=
  let c0_i32_90 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c192_i32_89 : BitVec 32 := 192#32
  let v137 : BitVec 32 := Scalar.muli v2 c192_i32_89
  let v138 : BitVec 32 := Scalar.addi c0_i32_90 v137
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c96_i32_188 : BitVec 32 := 96#32
  let v277 : BitVec 32 := Scalar.muli v5 c96_i32_188
  let v278 : BitVec 32 := Scalar.addi v138 v277
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c48_i32_284 : BitVec 32 := 48#32
  let v417 : BitVec 32 := Scalar.muli v25 c48_i32_284
  let v418 : BitVec 32 := Scalar.addi v278 v417
  let c2_i32_8 : BitVec 32 := 2#32
  let c0_i32_9 : BitVec 32 := 0#32
  let v26 : BitVec 1 := Scalar.cmpi .eq c2_i32_8 c0_i32_9
  let c1_i32_10 : BitVec 32 := 1#32
  let v27 : BitVec 32 := Scalar.select v26 c1_i32_10 c2_i32_8
  let v28 : BitVec 32 := Scalar.remsi v8 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c24_i32_380 : BitVec 32 := 24#32
  let v557 : BitVec 32 := Scalar.muli v35 c24_i32_380
  let v558 : BitVec 32 := Scalar.addi v418 v557
  let c24_i32_474 : BitVec 32 := 24#32
  let v691 : BitVec 32 := Scalar.muli v35 c24_i32_474
  let v692 : BitVec 32 := Scalar.subi v558 v691
  let c48_i32_558 : BitVec 32 := 48#32
  let v803 : BitVec 32 := Scalar.muli v25 c48_i32_558
  let v804 : BitVec 32 := Scalar.subi v692 v803
  let c0_i32_564 : BitVec 32 := 0#32
  ![v804.toNat, 0]
def k0_dev29 (d0 : Dev nD) : Nat :=
  let c0_i32_561 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_560 : BitVec 32 := 8#32
  let v805 : BitVec 32 := Scalar.muli v2 c8_i32_560
  let v806 : BitVec 32 := Scalar.addi c0_i32_561 v805
  let c1_i32_15 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_15 v5
  let c4_i32_562 : BitVec 32 := 4#32
  let v807 : BitVec 32 := Scalar.muli v37 c4_i32_562
  let v808 : BitVec 32 := Scalar.addi v806 v807
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_563 : BitVec 32 := 1#32
  let v809 : BitVec 32 := Scalar.muli v8 c1_i32_563
  let v810 : BitVec 32 := Scalar.addi v808 v809
  v810.toNat
def k0_off38 (d0 : Dev nD) : Fin 2 → Nat :=
  let c384_i32_115 : BitVec 32 := 384#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c192_i32_114 : BitVec 32 := 192#32
  let v172 : BitVec 32 := Scalar.muli v5 c192_i32_114
  let v173 : BitVec 32 := Scalar.addi c384_i32_115 v172
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c96_i32_212 : BitVec 32 := 96#32
  let v312 : BitVec 32 := Scalar.muli v2 c96_i32_212
  let v313 : BitVec 32 := Scalar.addi v173 v312
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let c0_i32_9 : BitVec 32 := 0#32
  let v26 : BitVec 1 := Scalar.cmpi .eq c2_i32_8 c0_i32_9
  let c1_i32_10 : BitVec 32 := 1#32
  let v27 : BitVec 32 := Scalar.select v26 c1_i32_10 c2_i32_8
  let v28 : BitVec 32 := Scalar.remsi v8 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c48_i32_308 : BitVec 32 := 48#32
  let v452 : BitVec 32 := Scalar.muli v35 c48_i32_308
  let v453 : BitVec 32 := Scalar.addi v313 v452
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c24_i32_403 : BitVec 32 := 24#32
  let v590 : BitVec 32 := Scalar.muli v25 c24_i32_403
  let v591 : BitVec 32 := Scalar.addi v453 v590
  let c24_i32_495 : BitVec 32 := 24#32
  let v719 : BitVec 32 := Scalar.muli v25 c24_i32_495
  let v720 : BitVec 32 := Scalar.subi v591 v719
  let c48_i32_579 : BitVec 32 := 48#32
  let v831 : BitVec 32 := Scalar.muli v35 c48_i32_579
  let v832 : BitVec 32 := Scalar.subi v720 v831
  let c0_i32_585 : BitVec 32 := 0#32
  ![v832.toNat, 0]
def k0_dev30 (d0 : Dev nD) : Nat :=
  let c0_i32_582 : BitVec 32 := 0#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.subi c1_i32_14 v2
  let c8_i32_581 : BitVec 32 := 8#32
  let v833 : BitVec 32 := Scalar.muli v36 c8_i32_581
  let v834 : BitVec 32 := Scalar.addi c0_i32_582 v833
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_583 : BitVec 32 := 4#32
  let v835 : BitVec 32 := Scalar.muli v5 c4_i32_583
  let v836 : BitVec 32 := Scalar.addi v834 v835
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_584 : BitVec 32 := 1#32
  let v837 : BitVec 32 := Scalar.muli v8 c1_i32_584
  let v838 : BitVec 32 := Scalar.addi v836 v837
  v838.toNat
def k0_off39 (d0 : Dev nD) : Fin 2 → Nat :=
  let c768_i32_140 : BitVec 32 := 768#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let c0_i32_9 : BitVec 32 := 0#32
  let v26 : BitVec 1 := Scalar.cmpi .eq c2_i32_8 c0_i32_9
  let c1_i32_10 : BitVec 32 := 1#32
  let v27 : BitVec 32 := Scalar.select v26 c1_i32_10 c2_i32_8
  let v28 : BitVec 32 := Scalar.remsi v8 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c64_i32_139 : BitVec 32 := 64#32
  let v207 : BitVec 32 := Scalar.muli v35 c64_i32_139
  let v208 : BitVec 32 := Scalar.addi c768_i32_140 v207
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c32_i32_236 : BitVec 32 := 32#32
  let v347 : BitVec 32 := Scalar.muli v25 c32_i32_236
  let v348 : BitVec 32 := Scalar.addi v208 v347
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c16_i32_332 : BitVec 32 := 16#32
  let v487 : BitVec 32 := Scalar.muli v2 c16_i32_332
  let v488 : BitVec 32 := Scalar.addi v348 v487
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c8_i32_426 : BitVec 32 := 8#32
  let v623 : BitVec 32 := Scalar.muli v5 c8_i32_426
  let v624 : BitVec 32 := Scalar.addi v488 v623
  let c8_i32_516 : BitVec 32 := 8#32
  let v747 : BitVec 32 := Scalar.muli v5 c8_i32_516
  let v748 : BitVec 32 := Scalar.subi v624 v747
  let c16_i32_600 : BitVec 32 := 16#32
  let v859 : BitVec 32 := Scalar.muli v2 c16_i32_600
  let v860 : BitVec 32 := Scalar.subi v748 v859
  let c0_i32_606 : BitVec 32 := 0#32
  ![v860.toNat, 0]
def k0_dev31 (d0 : Dev nD) : Nat :=
  let c0_i32_603 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_602 : BitVec 32 := 8#32
  let v861 : BitVec 32 := Scalar.muli v2 c8_i32_602
  let v862 : BitVec 32 := Scalar.addi c0_i32_603 v861
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_604 : BitVec 32 := 4#32
  let v863 : BitVec 32 := Scalar.muli v5 c4_i32_604
  let v864 : BitVec 32 := Scalar.addi v862 v863
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_16 : BitVec 32 := 2#32
  let v38 : BitVec 32 := Scalar.xori v8 c2_i32_16
  let c1_i32_605 : BitVec 32 := 1#32
  let v865 : BitVec 32 := Scalar.muli v38 c1_i32_605
  let v866 : BitVec 32 := Scalar.addi v864 v865
  v866.toNat
def k0_off40 (d0 : Dev nD) : Fin 2 → Nat :=
  let c896_i32_164 : BitVec 32 := 896#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c64_i32_163 : BitVec 32 := 64#32
  let v242 : BitVec 32 := Scalar.muli v25 c64_i32_163
  let v243 : BitVec 32 := Scalar.addi c896_i32_164 v242
  let c2_i32_8 : BitVec 32 := 2#32
  let c0_i32_9 : BitVec 32 := 0#32
  let v26 : BitVec 1 := Scalar.cmpi .eq c2_i32_8 c0_i32_9
  let c1_i32_10 : BitVec 32 := 1#32
  let v27 : BitVec 32 := Scalar.select v26 c1_i32_10 c2_i32_8
  let v28 : BitVec 32 := Scalar.remsi v8 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c32_i32_260 : BitVec 32 := 32#32
  let v382 : BitVec 32 := Scalar.muli v35 c32_i32_260
  let v383 : BitVec 32 := Scalar.addi v243 v382
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c16_i32_356 : BitVec 32 := 16#32
  let v522 : BitVec 32 := Scalar.muli v5 c16_i32_356
  let v523 : BitVec 32 := Scalar.addi v383 v522
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_449 : BitVec 32 := 8#32
  let v656 : BitVec 32 := Scalar.muli v2 c8_i32_449
  let v657 : BitVec 32 := Scalar.addi v523 v656
  let c8_i32_537 : BitVec 32 := 8#32
  let v775 : BitVec 32 := Scalar.muli v2 c8_i32_537
  let v776 : BitVec 32 := Scalar.subi v657 v775
  let c16_i32_621 : BitVec 32 := 16#32
  let v887 : BitVec 32 := Scalar.muli v5 c16_i32_621
  let v888 : BitVec 32 := Scalar.subi v776 v887
  let c0_i32_627 : BitVec 32 := 0#32
  ![v888.toNat, 0]
def k0_dev32 (d0 : Dev nD) : Nat :=
  let c0_i32_624 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_623 : BitVec 32 := 8#32
  let v889 : BitVec 32 := Scalar.muli v2 c8_i32_623
  let v890 : BitVec 32 := Scalar.addi c0_i32_624 v889
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_625 : BitVec 32 := 4#32
  let v891 : BitVec 32 := Scalar.muli v5 c4_i32_625
  let v892 : BitVec 32 := Scalar.addi v890 v891
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_17 : BitVec 32 := 1#32
  let v39 : BitVec 32 := Scalar.xori v8 c1_i32_17
  let c1_i32_626 : BitVec 32 := 1#32
  let v893 : BitVec 32 := Scalar.muli v39 c1_i32_626
  let v894 : BitVec 32 := Scalar.addi v892 v893
  v894.toNat
def k0_off41 (d0 : Dev nD) : Fin 2 → Nat :=
  let c0_i32_90 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c192_i32_89 : BitVec 32 := 192#32
  let v137 : BitVec 32 := Scalar.muli v2 c192_i32_89
  let v138 : BitVec 32 := Scalar.addi c0_i32_90 v137
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c96_i32_188 : BitVec 32 := 96#32
  let v277 : BitVec 32 := Scalar.muli v5 c96_i32_188
  let v278 : BitVec 32 := Scalar.addi v138 v277
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c48_i32_284 : BitVec 32 := 48#32
  let v417 : BitVec 32 := Scalar.muli v25 c48_i32_284
  let v418 : BitVec 32 := Scalar.addi v278 v417
  let c2_i32_8 : BitVec 32 := 2#32
  let c0_i32_9 : BitVec 32 := 0#32
  let v26 : BitVec 1 := Scalar.cmpi .eq c2_i32_8 c0_i32_9
  let c1_i32_10 : BitVec 32 := 1#32
  let v27 : BitVec 32 := Scalar.select v26 c1_i32_10 c2_i32_8
  let v28 : BitVec 32 := Scalar.remsi v8 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c24_i32_380 : BitVec 32 := 24#32
  let v557 : BitVec 32 := Scalar.muli v35 c24_i32_380
  let v558 : BitVec 32 := Scalar.addi v418 v557
  let c24_i32_474 : BitVec 32 := 24#32
  let v691 : BitVec 32 := Scalar.muli v35 c24_i32_474
  let v692 : BitVec 32 := Scalar.subi v558 v691
  let c48_i32_558 : BitVec 32 := 48#32
  let v803 : BitVec 32 := Scalar.muli v25 c48_i32_558
  let v804 : BitVec 32 := Scalar.subi v692 v803
  let c96_i32_642 : BitVec 32 := 96#32
  let v915 : BitVec 32 := Scalar.muli v5 c96_i32_642
  let v916 : BitVec 32 := Scalar.subi v804 v915
  let c0_i32_649 : BitVec 32 := 0#32
  ![v916.toNat, 0]
def k0_dev33 (d0 : Dev nD) : Nat :=
  let c0_i32_646 : BitVec 32 := 0#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.subi c1_i32_14 v2
  let c8_i32_645 : BitVec 32 := 8#32
  let v917 : BitVec 32 := Scalar.muli v36 c8_i32_645
  let v918 : BitVec 32 := Scalar.addi c0_i32_646 v917
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_647 : BitVec 32 := 4#32
  let v919 : BitVec 32 := Scalar.muli v5 c4_i32_647
  let v920 : BitVec 32 := Scalar.addi v918 v919
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_648 : BitVec 32 := 1#32
  let v921 : BitVec 32 := Scalar.muli v8 c1_i32_648
  let v922 : BitVec 32 := Scalar.addi v920 v921
  v922.toNat
def k0_off42 (d0 : Dev nD) : Fin 2 → Nat :=
  let c384_i32_115 : BitVec 32 := 384#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c192_i32_114 : BitVec 32 := 192#32
  let v172 : BitVec 32 := Scalar.muli v5 c192_i32_114
  let v173 : BitVec 32 := Scalar.addi c384_i32_115 v172
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c96_i32_212 : BitVec 32 := 96#32
  let v312 : BitVec 32 := Scalar.muli v2 c96_i32_212
  let v313 : BitVec 32 := Scalar.addi v173 v312
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let c0_i32_9 : BitVec 32 := 0#32
  let v26 : BitVec 1 := Scalar.cmpi .eq c2_i32_8 c0_i32_9
  let c1_i32_10 : BitVec 32 := 1#32
  let v27 : BitVec 32 := Scalar.select v26 c1_i32_10 c2_i32_8
  let v28 : BitVec 32 := Scalar.remsi v8 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c48_i32_308 : BitVec 32 := 48#32
  let v452 : BitVec 32 := Scalar.muli v35 c48_i32_308
  let v453 : BitVec 32 := Scalar.addi v313 v452
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c24_i32_403 : BitVec 32 := 24#32
  let v590 : BitVec 32 := Scalar.muli v25 c24_i32_403
  let v591 : BitVec 32 := Scalar.addi v453 v590
  let c24_i32_495 : BitVec 32 := 24#32
  let v719 : BitVec 32 := Scalar.muli v25 c24_i32_495
  let v720 : BitVec 32 := Scalar.subi v591 v719
  let c48_i32_579 : BitVec 32 := 48#32
  let v831 : BitVec 32 := Scalar.muli v35 c48_i32_579
  let v832 : BitVec 32 := Scalar.subi v720 v831
  let c96_i32_664 : BitVec 32 := 96#32
  let v943 : BitVec 32 := Scalar.muli v2 c96_i32_664
  let v944 : BitVec 32 := Scalar.subi v832 v943
  let c0_i32_670 : BitVec 32 := 0#32
  ![v944.toNat, 0]
def k0_dev34 (d0 : Dev nD) : Nat :=
  let c0_i32_667 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_666 : BitVec 32 := 8#32
  let v945 : BitVec 32 := Scalar.muli v2 c8_i32_666
  let v946 : BitVec 32 := Scalar.addi c0_i32_667 v945
  let c1_i32_15 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_15 v5
  let c4_i32_668 : BitVec 32 := 4#32
  let v947 : BitVec 32 := Scalar.muli v37 c4_i32_668
  let v948 : BitVec 32 := Scalar.addi v946 v947
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_669 : BitVec 32 := 1#32
  let v949 : BitVec 32 := Scalar.muli v8 c1_i32_669
  let v950 : BitVec 32 := Scalar.addi v948 v949
  v950.toNat
def k0_off43 (d0 : Dev nD) : Fin 2 → Nat :=
  let c768_i32_140 : BitVec 32 := 768#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let c0_i32_9 : BitVec 32 := 0#32
  let v26 : BitVec 1 := Scalar.cmpi .eq c2_i32_8 c0_i32_9
  let c1_i32_10 : BitVec 32 := 1#32
  let v27 : BitVec 32 := Scalar.select v26 c1_i32_10 c2_i32_8
  let v28 : BitVec 32 := Scalar.remsi v8 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c64_i32_139 : BitVec 32 := 64#32
  let v207 : BitVec 32 := Scalar.muli v35 c64_i32_139
  let v208 : BitVec 32 := Scalar.addi c768_i32_140 v207
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c32_i32_236 : BitVec 32 := 32#32
  let v347 : BitVec 32 := Scalar.muli v25 c32_i32_236
  let v348 : BitVec 32 := Scalar.addi v208 v347
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c16_i32_332 : BitVec 32 := 16#32
  let v487 : BitVec 32 := Scalar.muli v2 c16_i32_332
  let v488 : BitVec 32 := Scalar.addi v348 v487
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c8_i32_426 : BitVec 32 := 8#32
  let v623 : BitVec 32 := Scalar.muli v5 c8_i32_426
  let v624 : BitVec 32 := Scalar.addi v488 v623
  let c8_i32_516 : BitVec 32 := 8#32
  let v747 : BitVec 32 := Scalar.muli v5 c8_i32_516
  let v748 : BitVec 32 := Scalar.subi v624 v747
  let c16_i32_600 : BitVec 32 := 16#32
  let v859 : BitVec 32 := Scalar.muli v2 c16_i32_600
  let v860 : BitVec 32 := Scalar.subi v748 v859
  let c32_i32_685 : BitVec 32 := 32#32
  let v971 : BitVec 32 := Scalar.muli v25 c32_i32_685
  let v972 : BitVec 32 := Scalar.subi v860 v971
  let c0_i32_691 : BitVec 32 := 0#32
  ![v972.toNat, 0]
def k0_dev35 (d0 : Dev nD) : Nat :=
  let c0_i32_688 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_687 : BitVec 32 := 8#32
  let v973 : BitVec 32 := Scalar.muli v2 c8_i32_687
  let v974 : BitVec 32 := Scalar.addi c0_i32_688 v973
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_689 : BitVec 32 := 4#32
  let v975 : BitVec 32 := Scalar.muli v5 c4_i32_689
  let v976 : BitVec 32 := Scalar.addi v974 v975
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_17 : BitVec 32 := 1#32
  let v39 : BitVec 32 := Scalar.xori v8 c1_i32_17
  let c1_i32_690 : BitVec 32 := 1#32
  let v977 : BitVec 32 := Scalar.muli v39 c1_i32_690
  let v978 : BitVec 32 := Scalar.addi v976 v977
  v978.toNat
def k0_off44 (d0 : Dev nD) : Fin 2 → Nat :=
  let c896_i32_164 : BitVec 32 := 896#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v10 : BitVec 1 := Scalar.cmpi .sgt v8 c0_i32
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c2_i32_2 : BitVec 32 := 2#32
  let c0_i32_4 : BitVec 32 := 0#32
  let v15 : BitVec 1 := Scalar.cmpi .sgt c2_i32_2 c0_i32_4
  let v16 : BitVec 32 := Scalar.extui v15
  let c0_i32_5 : BitVec 32 := 0#32
  let v17 : BitVec 1 := Scalar.cmpi .slt c2_i32_2 c0_i32_5
  let v18 : BitVec 32 := Scalar.extui v17
  let v19 : BitVec 32 := Scalar.subi v16 v18
  let v20 : BitVec 1 := Scalar.cmpi .ne v14 v19
  let v21 : BitVec 32 := Scalar.remsi v8 c2_i32_2
  let c0_i32_6 : BitVec 32 := 0#32
  let v22 : BitVec 1 := Scalar.cmpi .ne v21 c0_i32_6
  let v23 : BitVec 1 := Scalar.andi v20 v22
  let v9 : BitVec 32 := Scalar.divsi v8 c2_i32_2
  let c1_i32_7 : BitVec 32 := 1#32
  let v24 : BitVec 32 := Scalar.subi v9 c1_i32_7
  let v25 : BitVec 32 := Scalar.select v23 v24 v9
  let c64_i32_163 : BitVec 32 := 64#32
  let v242 : BitVec 32 := Scalar.muli v25 c64_i32_163
  let v243 : BitVec 32 := Scalar.addi c896_i32_164 v242
  let c2_i32_8 : BitVec 32 := 2#32
  let c0_i32_9 : BitVec 32 := 0#32
  let v26 : BitVec 1 := Scalar.cmpi .eq c2_i32_8 c0_i32_9
  let c1_i32_10 : BitVec 32 := 1#32
  let v27 : BitVec 32 := Scalar.select v26 c1_i32_10 c2_i32_8
  let v28 : BitVec 32 := Scalar.remsi v8 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c32_i32_260 : BitVec 32 := 32#32
  let v382 : BitVec 32 := Scalar.muli v35 c32_i32_260
  let v383 : BitVec 32 := Scalar.addi v243 v382
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c16_i32_356 : BitVec 32 := 16#32
  let v522 : BitVec 32 := Scalar.muli v5 c16_i32_356
  let v523 : BitVec 32 := Scalar.addi v383 v522
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_449 : BitVec 32 := 8#32
  let v656 : BitVec 32 := Scalar.muli v2 c8_i32_449
  let v657 : BitVec 32 := Scalar.addi v523 v656
  let c8_i32_537 : BitVec 32 := 8#32
  let v775 : BitVec 32 := Scalar.muli v2 c8_i32_537
  let v776 : BitVec 32 := Scalar.subi v657 v775
  let c16_i32_621 : BitVec 32 := 16#32
  let v887 : BitVec 32 := Scalar.muli v5 c16_i32_621
  let v888 : BitVec 32 := Scalar.subi v776 v887
  let c32_i32_706 : BitVec 32 := 32#32
  let v999 : BitVec 32 := Scalar.muli v35 c32_i32_706
  let v1000 : BitVec 32 := Scalar.subi v888 v999
  let c0_i32_712 : BitVec 32 := 0#32
  ![v1000.toNat, 0]
def k0_dev36 (d0 : Dev nD) : Nat :=
  let c0_i32_709 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_708 : BitVec 32 := 8#32
  let v1001 : BitVec 32 := Scalar.muli v2 c8_i32_708
  let v1002 : BitVec 32 := Scalar.addi c0_i32_709 v1001
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_710 : BitVec 32 := 4#32
  let v1003 : BitVec 32 := Scalar.muli v5 c4_i32_710
  let v1004 : BitVec 32 := Scalar.addi v1002 v1003
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_16 : BitVec 32 := 2#32
  let v38 : BitVec 32 := Scalar.xori v8 c2_i32_16
  let c1_i32_711 : BitVec 32 := 1#32
  let v1005 : BitVec 32 := Scalar.muli v38 c1_i32_711
  let v1006 : BitVec 32 := Scalar.addi v1004 v1005
  v1006.toNat
abbrev stage0_0 : Fin 1 → Memref sig .tc .vmem S1x1x1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x2x4x1024x1024 : Shape := ⟨5, ![2, 2, 4, 1024, 1024]⟩
abbrev S_ : Shape := ⟨0, ![]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2x2x4x1024x1024, .f32⟩
  | .hbm, ⟨1, _⟩ => ⟨S_, .f32⟩
  | .hbm, ⟨2, _⟩ => ⟨S1024x1024, .f32⟩
  | _, _ => ⟨S2x2x4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.GeoKernelIdeal.lean ====
/-
# The geometry of the all-reduce: who exchanges with whom, and which rows

The sixteen devices are the corners of a four-dimensional cube: bit `d` of a device's id (counted from the most
significant) is its coordinate in direction `d`, and its partner in direction `d` differs from it in that bit alone.
The 1024 rows of the array are cut into four chunks; at stage `s` of chunk `ch` the devices exchange along direction
`perm ch s`, each keeping one half of the rows it still held and sending its partner the other half. `base ch s c` is
the first row device `c` still holds before stage `s`, `size ch s` how many it holds.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.AR

open Cert.KernelIdeal Cert.KernelIdeal.Gen
open Idealize.ShloMosaic Idealize.ShloMosaic.TcCoe Idealize.SL.Sem

/-! ## Partners -/

theorem flip_lt : ∀ (d : Fin 4) (c : Dev nD), c.val ^^^ (8 >>> d.val) < nD := by decide +kernel

/-- The partner of device `c` in direction `d`: its id with bit `d` turned over. -/
def flip (d : Fin 4) (c : Dev nD) : Dev nD := ⟨c.val ^^^ (8 >>> d.val), flip_lt d c⟩

/-- Device `c`'s coordinate in direction `d`. -/
def bit (d : Fin 4) (c : Dev nD) : ℕ := (c.val >>> (3 - d.val)) % 2

/-- The direction of stage `s` of chunk `ch`. -/
def perm (ch s : ℕ) : Fin 4 :=
  (([[0, 1, 2, 3], [1, 0, 3, 2], [3, 2, 0, 1], [2, 3, 1, 0]] : List (List (Fin 4))).getD ch []).getD s 0

/-- The device that device `c` exchanges with at stage `s` of chunk `ch`. -/
def peer (ch s : Fin 4) (c : Dev nD) : Dev nD := flip (perm ch s) c

theorem flip_flip (d : Fin 4) (c : Dev nD) : flip d (flip d c) = c := by revert d c; decide +kernel
theorem peer_peer (ch s : Fin 4) (c : Dev nD) : peer ch s (peer ch s c) = c := flip_flip _ c

/-- The partner in a direction, as a permutation of the devices. -/
def flipEquiv (d : Fin 4) : Dev nD ≃ Dev nD := ⟨flip d, flip d, flip_flip d, flip_flip d⟩
/-- The partner at a stage, as a permutation of the devices. -/
def peerEquiv (ch s : Fin 4) : Dev nD ≃ Dev nD := ⟨peer ch s, peer ch s, peer_peer ch s, peer_peer ch s⟩

/-! ## Rows -/

/-- How many rows of chunk `ch` a device holds before stage `s`. -/
def size (ch s : ℕ) : ℕ := (if ch < 2 then 384 else 128) / 2 ^ s
/-- How many rows stage `s` of chunk `ch` moves. -/
def hsz (ch s : ℕ) : ℕ := (if ch < 2 then 384 else 128) / 2 ^ (s + 1)

/-- The first row of chunk `ch` that device `c` holds before stage `s`. -/
def base (ch : ℕ) : ℕ → Dev nD → ℕ
  | 0, _ => ([0, 384, 768, 896] : List ℕ).getD ch 0
  | s + 1, c => base ch s c + bit (perm ch s) c * hsz ch s

theorem size_two (ch s : Fin 4) : size ch s = hsz ch s + hsz ch s := by revert ch s; decide +kernel
theorem size_succ (ch s : ℕ) : size ch (s + 1) = hsz ch s := rfl
theorem base_peer (ch s : Fin 4) (c : Dev nD) : base ch s (peer ch s c) = base ch s c := by revert ch s c; decide +kernel
theorem base_halves (ch s : Fin 4) (c : Dev nD) :
    (base ch (s + 1) c = base ch s c ∧ base ch (s + 1) (peer ch s c) = base ch s c + hsz ch s)
      ∨ (base ch (s + 1) c = base ch s c + hsz ch s ∧ base ch (s + 1) (peer ch s c) = base ch s c) := by
  revert ch s c; decide +kernel
theorem base_le (ch s : Fin 4) (c : Dev nD) : base ch (s + 1) c + hsz ch s ≤ 1024 := by revert ch s c; decide +kernel
theorem hsz_pos (ch s : Fin 4) : 0 < hsz ch s := by revert ch s; decide +kernel

/-- The row intervals that the sixty-four (chunk, device) pairs hold at the end are pairwise disjoint. -/
theorem final_disjoint (ch ch' : Fin 4) (c c' : Dev nD) :
    (ch = ch' ∧ c = c') ∨ base ch 4 c + size ch 4 ≤ base ch' 4 c' ∨ base ch' 4 c' + size ch' 4 ≤ base ch 4 c := by
  revert ch ch' c c'; decide +kernel
/-- and cover every row. -/
theorem final_cover (r : Fin 1024) : ∃ p : Fin 4 × Dev nD, base p.1 4 p.2 ≤ r.val ∧ r.val < base p.1 4 p.2 + size p.1 4 := by
  revert r; decide +kernel

/-- The elements of the array in rows `b` up to `b + n`. -/
def rows (b n : ℕ) : Finset S1024x1024.Idx := Finset.univ.filter fun i => b ≤ (i 0).val ∧ (i 0).val < b + n

theorem mem_rows {b n : ℕ} {i : S1024x1024.Idx} : i ∈ rows b n ↔ b ≤ (i 0).val ∧ (i 0).val < b + n := by
  unfold rows; rw [Finset.mem_filter]; exact ⟨fun h => h.2, fun h => ⟨Finset.mem_univ _, h⟩⟩

theorem rows_disjoint {b n b' n' : ℕ} (h : b + n ≤ b' ∨ b' + n' ≤ b) : Disjoint (rows b n) (rows b' n') := by
  rw [Finset.disjoint_left]; intro i hi hj; rw [mem_rows] at hi hj; omega

theorem rows_append {b n n' : ℕ} : rows b n ∪ rows (b + n) n' = rows b (n + n') := by
  ext i; rw [Finset.mem_union, mem_rows, mem_rows, mem_rows]; omega

theorem rows_halves (ch s : Fin 4) (c : Dev nD) :
    rows (base ch (s + 1) c) (hsz ch s) ∪ rows (base ch (s + 1) (peer ch s c)) (hsz ch s) = rows (base ch s c) (size ch s) := by
  rw [size_two]
  rcases base_halves ch s c with ⟨h, h'⟩ | ⟨h, h'⟩
  · rw [h, h', rows_append]
  · rw [h, h', Finset.union_comm, rows_append]

theorem rows_halves_disjoint (ch s : Fin 4) (c : Dev nD) :
    Disjoint (rows (base ch (s + 1) c) (hsz ch s)) (rows (base ch (s + 1) (peer ch s c)) (hsz ch s)) := by
  apply rows_disjoint; rcases base_halves ch s c with ⟨h, h'⟩ | ⟨h, h'⟩ <;> omega

/-! ## The buffers -/

/-- The shape of `n` rows. -/
abbrev Sn (n : ℕ) : Shape := ⟨2, ![n, 1024]⟩

abbrev xM : Memref sig .tc .vmem S1x1x1x1024x1024 .f32 := Memref.whole cc0_stg0_0
abbrev oM : Memref sig .tc .vmem S1024x1024 .f32 := Memref.whole cc0_stg1_0

/-- The landing buffer of stage `s` of chunk `ch`. -/
def rb : (ch s : Fin 4) → Memref sig .tc .vmem (Sn (hsz ch s)) .f32
  | 0, 0 => Memref.whole cc0_scratch0 | 0, 1 => Memref.whole cc0_scratch1
  | 0, 2 => Memref.whole cc0_scratch2 | 0, 3 => Memref.whole cc0_scratch3
  | 1, 0 => Memref.whole cc0_scratch4 | 1, 1 => Memref.whole cc0_scratch5
  | 1, 2 => Memref.whole cc0_scratch6 | 1, 3 => Memref.whole cc0_scratch7
  | 2, 0 => Memref.whole cc0_scratch8 | 2, 1 => Memref.whole cc0_scratch9
  | 2, 2 => Memref.whole cc0_scratch10 | 2, 3 => Memref.whole cc0_scratch11
  | 3, 0 => Memref.whole cc0_scratch12 | 3, 1 => Memref.whole cc0_scratch13
  | 3, 2 => Memref.whole cc0_scratch14 | 3, 3 => Memref.whole cc0_scratch15

theorem inb_rows {b n : ℕ} (h : b + n ≤ 1024) : ∀ a, (![b, 0] : Fin 2 → ℕ) a + (Sn n).size a ≤ S1024x1024.size a :=
  fun a => by fin_cases a; · exact h
              · exact Nat.le_refl _

/-- Rows `b` up to `b + n` of the result buffer, as the kernel slices them. -/
abbrev cut (b n : ℕ) (h : b + n ≤ 1024) : Memref sig .tc .vmem (Sn n) .f32 :=
  oM.slice (Rect.unit (s := S1024x1024) ![b, 0] (Sn n).size (inb_rows h)) (fun _ => rfl)

/-- The rows device `c` keeps at stage `s` of chunk `ch`. -/
abbrev seg (ch s : Fin 4) (c : Dev nD) : Memref sig .tc .vmem (Sn (hsz ch s)) .f32 := cut (base ch (s + 1) c) (hsz ch s) (base_le ch s c)

theorem set_cut (b n : ℕ) (h : b + n ≤ 1024) : (cut b n h).view.set = rows b n := by
  ext i
  show i ∈ ((View.whole cc0_stg1_0).slice _).set ↔ _
  rw [View.set_slice_whole, Rect.mem_set_unit, mem_rows]
  constructor
  · intro hi; exact hi 0
  · intro hi a; fin_cases a
    · exact hi
    · exact ⟨Nat.zero_le _, (i 1).isLt.trans_le (Nat.le_add_left _ _)⟩

theorem cut_eq {off : Fin 2 → ℕ} {b n : ℕ} {inb} (h : b + n ≤ 1024) (ho : off = ![b, 0]) :
    oM.slice (Rect.unit (s := S1024x1024) off (Sn n).size inb) (fun _ => rfl) = cut b n h := by subst ho; rfl

/-- How much a transfer of stage `s` of chunk `ch` credits. -/
def amt (ch s : Fin 4) : ℕ := (rb ch s).view.dmaCredit
theorem amt_pos (ch s : Fin 4) : 0 < amt ch s := View.dmaCredit_pos _ (by revert ch s; decide +kernel)
theorem amt_cut {ch s : Fin 4} {b : ℕ} (h : b + hsz ch s ≤ 1024) : (cut b (hsz ch s) h).view.dmaCredit = amt ch s := rfl

end Cert.KernelIdeal.AR

end
-- ==== Proof.SchedKernelIdeal.lean ====
/-
# What the buffers hold, and what each semaphore hands over

Each of the sixteen (chunk, stage) pairs has one exchange on the way down (every device sends the half it gives up to a
landing buffer of its partner) and one on the way back (every device sends its finished half into the partner's result
buffer). An exchange is named by `(back, chunk, stage)`. Every semaphore is used for one round: the barrier takes one unit
from each of the four partners, every DMA semaphore one transfer.
-/
module

public import proofs.«01_k».proof.Proof.GeoKernelIdeal

@[expose] public section

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the staging's rounds and the exchanges' (duties `Fin 4`) -/

abbrev UX : Type := URounds (GSem nD τ sig) (Fin 4)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

variable (m : (ℓ : Loc nD τ sig) → Buf (Elt F) ℓ) (ρ : Dev nD → PrngReg)

/-- The state the devices start from: whatever the buffers and generators hold, no semaphore raised. -/
def s₀ : MemSt nD τ sig (Elt F) := ⟨m, fun _ => 0, ρ⟩

/-! ## Exchanges and their semaphores -/

/-- An exchange: whether it is on the way back, its chunk, its stage. -/
abbrev Tr : Type := Bool × Fin 4 × Fin 4

/-- The place of an exchange's semaphore in the two semaphore arrays. -/
def slot (t : Tr) : ℕ := t.2.1.val * 8 + (if t.1 then 4 else 0) + t.2.2.val
theorem slot_lt : ∀ t : Tr, slot t < 32 := by decide +kernel

/-- The semaphore an exchange's sender waits on; -/
def sSem (t : Tr) : DmaSem sig := ⟨2 + slot t, by show 2 + slot t < 66; have := slot_lt t; omega⟩
/-- the semaphore its receiver waits on. -/
def rSem (t : Tr) : DmaSem sig := ⟨34 + slot t, by show 34 + slot t < 66; have := slot_lt t; omega⟩

/-- Which exchange a DMA semaphore serves, -/
def trOf (i : DmaSem sig) : Tr :=
  (decide (4 ≤ (i.val - 2) % 8), ⟨(i.val - 2) % 32 / 8, by omega⟩, ⟨(i.val - 2) % 4, by omega⟩)
/-- and whether as its receiver's. -/
def isRecv (i : DmaSem sig) : Bool := decide (34 ≤ i.val)

theorem trOf_sSem (t : Tr) : trOf (sSem t) = t := by revert t; decide +kernel
theorem trOf_rSem (t : Tr) : trOf (rSem t) = t := by revert t; decide +kernel
theorem isRecv_sSem (t : Tr) : isRecv (sSem t) = false := by revert t; decide +kernel
theorem isRecv_rSem (t : Tr) : isRecv (rSem t) = true := by revert t; decide +kernel
theorem two_le_sSem (t : Tr) : 2 ≤ (sSem t).val := Nat.le_add_right 2 _
theorem two_le_rSem (t : Tr) : 2 ≤ (rSem t).val := by show 2 ≤ 34 + slot t; omega
theorem sem_cases (i : DmaSem sig) (h : 2 ≤ i.val) : i = sSem (trOf i) ∨ i = rSem (trOf i) := by
  revert h; revert i; decide +kernel

abbrev barS : Sem sig := (SemArray.scalar (sig.barrier 0 rfl) : Sems sig S_).sem
abbrev bCell (c : Dev nD) : GSem nD τ sig := ((c : Thread nD τ), .reg barS)
abbrev dCell (c : Dev nD) (i : DmaSem sig) : GSem nD τ sig := ((c : Thread nD τ), .dma i)
abbrev sCell (c : Dev nD) (t : Tr) : GSem nD τ sig := dCell c (sSem t)
abbrev rCell (c : Dev nD) (t : Tr) : GSem nD τ sig := dCell c (rSem t)

/-- Who device `c` exchanges with in `t`. -/
abbrev mate (t : Tr) (c : Dev nD) : Dev nD := peer t.2.1 t.2.2 c

/-- The kernel's own semaphores: an exchange's receiver's (`true`) or its sender's; -/
def osem (p : Bool × Tr) : SemLoc sig := .dma (if p.1 then rSem p.2 else sSem p.2)
/-- with the barrier's, every semaphore the exchanges use. -/
abbrev Ce : Type := Unit ⊕ (Bool × Tr)
def csem : Ce → SemLoc sig := Sum.elim (fun _ => .reg barS) osem
def kcell (p : Dev nD × Ce) : GSem nD τ sig := ((p.1 : Thread nD τ), csem p.2)

theorem sem_of (i : DmaSem sig) (h : 2 ≤ i.val) : (if isRecv i then rSem (trOf i) else sSem (trOf i)) = i := by
  revert h; revert i; decide +kernel
theorem kcell_bar (c : Dev nD) : kcell (c, .inl ()) = bCell c := rfl
theorem kcell_dma (c : Dev nD) (i : DmaSem sig) (h : 2 ≤ i.val) : kcell (c, .inr (isRecv i, trOf i)) = dCell c i := by
  show ((c : Thread nD τ), SemLoc.dma (if isRecv i then rSem (trOf i) else sSem (trOf i))) = _
  rw [sem_of i h]

/-! ## Contents -/

/-- What is staged of device `c`'s block of `x`. -/
def xstg (c : Dev nD) : (cc0_stg0_0 : Ref sig .tc).ty.Contents (Elt F) :=
  (win0_0.blk (0 : Fin 1)).view.read (Elt F) ((s₀ m ρ).mem ((c : Thread nD τ).loc main_arg0))

/-- The partial sums of chunk `ch` on device `c` before stage `s`, as if it held them for every row. -/
def V (ch : ℕ) : ℕ → Dev nD → Vec F S1024x1024 .f32
  | 0, c => k0_pay1 (xstg m ρ c)
  | s + 1, c => addf (F := F) (φ := .f32) (V ch s c) (V ch s (flip (perm ch s) c))

/-- The finished array: each row from the chunk and the device that finish it. -/
def fin : Vec F S1024x1024 .f32 := fun i => V m ρ (final_cover (i 0)).choose.1 4 (final_cover (i 0)).choose.2 i

theorem fin_eq (ch : Fin 4) (c : Dev nD) {i : S1024x1024.Idx} (hi : i ∈ rows (base ch 4 c) (size ch 4)) : fin m ρ i = V m ρ ch 4 c i := by
  have h := (final_cover (i 0)).choose_spec
  rw [mem_rows] at hi
  unfold fin
  rcases final_disjoint (final_cover (i 0)).choose.1 ch (final_cover (i 0)).choose.2 c with ⟨h1, h2⟩ | h' | h'
  · rw [h1, h2]
  · omega
  · omega

/-- Rows `b` up to `b + n` of device `e`'s result buffer, holding what `f` does there. -/
def outPts (e : Dev nD) (b n : ℕ) (f : Vec F S1024x1024 .f32) : sProp 𝕄 :=
  (oM : Memref sig .tc .vmem S1024x1024 .f32).view.loc (e : Thread nD τ) ↦[rows b n]{fullShare} f

/-- A landing buffer of device `e`, holding anything. -/
def rbAny (e : Dev nD) (ch s : Fin 4) : sProp 𝕄 :=
  iprop(∃ f, (rb ch s).view.loc (e : Thread nD τ) ↦[(rb ch s).view.set]{fullShare} f)

/-- What lands in device `e`'s buffer at stage `s` of chunk `ch`: the partner's partial sums of the rows `e` keeps. -/
def landed (e : Dev nD) (ch s : Fin 4) : (Sn (hsz ch s)).Idx → Elt F .f32 :=
  (seg ch s e).view.read (Elt F) (V m ρ ch s (peer ch s e))

instance outPts_storable (e : Dev nD) (b n : ℕ) (f) : BI.Storable (upEmb : UEmb _ 𝕄) (outPts (F := F) e b n f) := by unfold outPts; infer_instance
instance rbAny_storable (e : Dev nD) (ch s : Fin 4) : BI.Storable (upEmb : UEmb _ 𝕄) (rbAny (F := F) e ch s) := by unfold rbAny; infer_instance

/-! ## The schedule -/

/-- What the partner in direction `d` hands device `e` at the barrier: its landing buffers for the exchanges in that direction. -/
def barPay (d : Fin 4) (e : Dev nD) : sProp 𝕄 :=
  bigSep Finset.univ fun p : Fin 4 × Fin 4 => if perm p.1 p.2 = d then rbAny (F := F) (peer p.1 p.2 e) p.1 p.2 else iprop(emp)

/-- What an exchange hands its sender back. -/
def sendPay (t : Tr) (e : Dev nD) : sProp 𝕄 :=
  if t.1 then outPts (F := F) e (base t.2.1 (t.2.2 + 1) e) (hsz t.2.1 t.2.2) (fin m ρ) else iprop(emp)

/-- What an exchange hands its receiver: on the way down the landed rows and the partner's copy of the rows it keeps (to
    be filled on the way back); on the way back the finished rows it had given up. -/
def recvPay (t : Tr) (e : Dev nD) : sProp 𝕄 :=
  if t.1 then outPts (F := F) e (base t.2.1 (t.2.2 + 1) (mate t e)) (hsz t.2.1 t.2.2) (fin m ρ)
  else iprop(owns (e : Thread nD τ) (rb t.2.1 t.2.2) fullShare (landed m ρ e t.2.1 t.2.2)
    ∗ ∃ f, outPts (F := F) (mate t e) (base t.2.1 (t.2.2 + 1) e) (hsz t.2.1 t.2.2) f)

def Rd : Rounds.Schedule (GSem nD τ sig) (Fin 4) 𝕄 where
  duties g r := if r = 0 then match g.2 with
    | .reg _ => Finset.univ
    | .dma i => if 2 ≤ i.val then {0} else ∅
    else ∅
  unitless _ := False
  amount g _ _ := match g.2 with
    | .reg _ => 1
    | .dma i => amt (trOf i).2.1 (trOf i).2.2
  payload g _ d := match g.2 with
    | .reg _ => barPay d g.1.1
    | .dma i => if isRecv i then recvPay m ρ (trOf i) g.1.1 else sendPay m ρ (trOf i) g.1.1
  amount_pos g _ _ _ := by
    rcases g with ⟨_, _ | i⟩
    · exact Nat.one_pos
    · exact amt_pos _ _

instance barPay_storable (d : Fin 4) (e : Dev nD) : BI.Storable (upEmb : UEmb _ 𝕄) (barPay (F := F) d e) := by
  unfold barPay
  have (p : Fin 4 × Fin 4) : BI.Storable (upEmb : UEmb _ 𝕄) (if perm p.1 p.2 = d then rbAny (F := F) (peer p.1 p.2 e) p.1 p.2 else iprop(emp)) := by
    split <;> infer_instance
  infer_instance
instance sendPay_storable (t : Tr) (e : Dev nD) : BI.Storable (upEmb : UEmb _ 𝕄) (sendPay (F := F) m ρ t e) := by
  unfold sendPay; split <;> infer_instance
instance recvPay_storable (t : Tr) (e : Dev nD) : BI.Storable (upEmb : UEmb _ 𝕄) (recvPay (F := F) m ρ t e) := by
  unfold recvPay; split <;> infer_instance
instance Rd_payload_storable (g : GSem nD τ sig) (r : ℕ) (d : Fin 4) : BI.Storable (upEmb : UEmb _ 𝕄) ((Rd (F := F) m ρ).payload g r d) := by
  rcases g with ⟨e, _ | i⟩
  · show BI.Storable upEmb (barPay d e.1); infer_instance
  · show BI.Storable upEmb (if isRecv i then recvPay m ρ (trOf i) e.1 else sendPay m ρ (trOf i) e.1)
    split <;> infer_instance

section Sched
variable (c : Dev nD) (t : Tr)

theorem duties_bar : (Rd (F := F) m ρ).duties (bCell c) 0 = Finset.univ := rfl
theorem duties_dma (i : DmaSem sig) (h : 2 ≤ i.val) : (Rd (F := F) m ρ).duties (dCell c i) 0 = {0} := if_pos h
theorem duties_later (g : GSem nD τ sig) : ∀ r, 0 + 1 ≤ r → (Rd (F := F) m ρ).duties g r = ∅ := fun r hr => if_neg (by omega)

theorem amount_bar (d : Fin 4) : (Rd (F := F) m ρ).amount (bCell c) 0 d = 1 := rfl
theorem amount_send (d : Fin 4) : (Rd (F := F) m ρ).amount (sCell c t) 0 d = amt t.2.1 t.2.2 := by
  show amt (trOf (sSem t)).2.1 (trOf (sSem t)).2.2 = _; rw [trOf_sSem]
theorem amount_recv (d : Fin 4) : (Rd (F := F) m ρ).amount (rCell c t) 0 d = amt t.2.1 t.2.2 := by
  show amt (trOf (rSem t)).2.1 (trOf (rSem t)).2.2 = _; rw [trOf_rSem]

theorem expect_bar : (Rd (F := F) m ρ).expect (bCell c) 0 = 4 := rfl
theorem expect_send : (Rd (F := F) m ρ).expect (sCell c t) 0 = amt t.2.1 t.2.2 := by
  unfold Schedule.expect Schedule.amountOf; rw [duties_dma m ρ c _ (two_le_sSem t), Finset.sum_singleton, amount_send]
theorem expect_recv : (Rd (F := F) m ρ).expect (rCell c t) 0 = amt t.2.1 t.2.2 := by
  unfold Schedule.expect Schedule.amountOf; rw [duties_dma m ρ c _ (two_le_rSem t), Finset.sum_singleton, amount_recv]

theorem payload_bar (d : Fin 4) : (Rd (F := F) m ρ).payload (bCell c) 0 d = barPay d c := rfl
theorem payload_send (d : Fin 4) : (Rd (F := F) m ρ).payload (sCell c t) 0 d = sendPay m ρ t c := by
  show (if isRecv (sSem t) = true then _ else sendPay m ρ (trOf (sSem t)) c) = _
  rw [isRecv_sSem, trOf_sSem]; exact if_neg Bool.false_ne_true
theorem payload_recv (d : Fin 4) : (Rd (F := F) m ρ).payload (rCell c t) 0 d = recvPay m ρ t c := by
  show (if isRecv (rSem t) = true then recvPay m ρ (trOf (rSem t)) c else _) = _
  rw [isRecv_rSem, trOf_rSem]; exact if_pos rfl

theorem rest_bar : bigSep ((Rd (F := F) m ρ).duties (bCell c) 0 \ ∅) (fun d => (Rd (F := F) m ρ).payload (bCell c) 0 d)
    = bigSep Finset.univ fun d => barPay d c := by
  rw [Finset.sdiff_empty, duties_bar]; rfl
theorem rest_send : bigSep ((Rd (F := F) m ρ).duties (sCell c t) 0 \ ∅) (fun d => (Rd (F := F) m ρ).payload (sCell c t) 0 d) = sendPay m ρ t c := by
  rw [Finset.sdiff_empty, duties_dma m ρ c _ (two_le_sSem t), bigSep_singleton, payload_send]
theorem rest_recv : bigSep ((Rd (F := F) m ρ).duties (rCell c t) 0 \ ∅) (fun d => (Rd (F := F) m ρ).payload (rCell c t) 0 d) = recvPay m ρ t c := by
  rw [Finset.sdiff_empty, duties_dma m ρ c _ (two_le_rSem t), bigSep_singleton, payload_recv]

end Sched

/-! ## What is owed, and in which order it is paid -/

/-- The place of an exchange in the order in which every device starts them; -/
def ord (t : Tr) : ℕ := if t.1 then 16 + 4 * (3 - t.2.2.val) + t.2.1.val else 4 * t.2.2.val + t.2.1.val
/-- and the exchange at a place. -/
def nth (k : ℕ) : Tr := if k < 16 then (false, ⟨k % 4, by omega⟩, ⟨k / 4 % 4, by omega⟩) else (true, ⟨k % 4, by omega⟩, ⟨3 - (k - 16) / 4 % 4, by omega⟩)

theorem ord_lt (t : Tr) : ord t < 32 := by revert t; decide +kernel
theorem nth_ord (t : Tr) : nth (ord t) = t := by revert t; decide +kernel
theorem ord_nth (k : Fin 32) : ord (nth k) = k := by revert k; decide +kernel

/-- What device `c` owes when `n` exchanges are still to be started. -/
def owe (c : Dev nD) : ℕ → CellTallies nD τ sig Unit
  | 0 => 0
  | n + 1 => owe c n + tallyAt (rCell (mate (nth (31 - n)) c) (nth (31 - n))) () (amt (nth (31 - n)).2.1 (nth (31 - n)).2.2)

/-- What it owes at launch: that, and a unit to the barrier of each of its partners. -/
def O₀ (c : Dev nD) : CellTallies nD τ sig Unit :=
  owe c 32 + tallyAt (bCell (flip 3 c)) () 1 + tallyAt (bCell (flip 2 c)) () 1 + tallyAt (bCell (flip 1 c)) () 1 + tallyAt (bCell (flip 0 c)) () 1

def L (g : GSem nD τ sig) : Finset Unit := if g.1.2 = .tc then {()} else ∅
/-- The levels: staging and send semaphores at 0, the barrier at 1, the receive semaphores above it in starting order. -/
def lv (g : GSem nD τ sig) (_ : Unit) : ℕ := match g.2 with
  | .reg _ => 1
  | .dma i => if isRecv i then 2 + ord (trOf i) else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (t : Tr) : lv (rCell c t) () = 2 + ord t := by
  show (if isRecv (rSem t) = true then 2 + ord (trOf (rSem t)) else 0) = _
  rw [isRecv_rSem, trOf_rSem]; exact if_pos rfl
theorem lv_not_recv (c : Dev nD) (i : DmaSem sig) (h : isRecv i = false) : lv (dCell c i) () = 0 := by
  show (if isRecv i = true then 2 + ord (trOf i) else 0) = 0
  rw [h]; exact if_neg Bool.false_ne_true

theorem owe_pos {c : Dev nD} {n : ℕ} (hn : n ≤ 32) {g : GSem nD τ sig} {u : Unit} (h : 0 < owe c n g u) :
    ∃ t, g = rCell (mate t c) t ∧ 32 - n ≤ ord t := by
  induction n with
  | zero => exact absurd h (Nat.lt_irrefl 0)
  | succ n ih =>
    unfold owe at h
    rw [Pi.add_apply, Finsupp.add_apply, tallyAt_apply] at h
    by_cases hg : g = rCell (mate (nth (31 - n)) c) (nth (31 - n)) ∧ u = ()
    · refine ⟨nth (31 - n), hg.1, ?_⟩
      have := ord_nth ⟨31 - n, by omega⟩
      rw [this]; show 32 - (n + 1) ≤ 31 - n; omega
    · rw [if_neg hg, Nat.add_zero] at h
      obtain ⟨t, ht, ho⟩ := ih (by omega) h
      exact ⟨t, ht, by omega⟩

theorem O₀_pos {c : Dev nD} {g : GSem nD τ sig} {u : Unit} (h : 0 < O₀ c g u) :
    (∃ t, g = rCell (mate t c) t) ∨ ∃ d, g = bCell (flip d c) := by
  unfold O₀ at h
  simp only [Pi.add_apply, Finsupp.add_apply, tallyAt_apply] at h
  by_cases h0 : 0 < owe c 32 g u
  · obtain ⟨t, ht, _⟩ := owe_pos (le_refl _) h0; exact .inl ⟨t, ht⟩
  · right
    by_contra hn; rw [not_exists] at hn
    rw [if_neg (fun h' => hn _ h'.1), if_neg (fun h' => hn _ h'.1), if_neg (fun h' => hn _ h'.1), if_neg (fun h' => hn _ h'.1)] at h
    exact h0 h

/-- A semaphore may be waited on while every exchange still to be started is above it. -/
theorem mayWait_owe (c : Dev nD) (sm : SemLoc sig) (n : ℕ) (hn : n ≤ 32) (hl : lv ((c : Thread nD τ), sm) () < 2 + (32 - n)) :
    (levAts L lv : sProp 𝕄) ⊢ MayWait (c : Thread nD τ) sm () (owe c n) :=
  MayOwe.of_cut (L := L) (lev := lv) (lv ((c : Thread nD τ), sm) ()) (fun p hp => by rw [Finset.mem_singleton.mp hp, L_tc]; exact Finset.mem_singleton_self _)
    (fun g u hg => by obtain ⟨t, rfl, _⟩ := owe_pos hn hg; rw [L_tc]; exact Finset.mem_singleton_self _)
    (fun p hp => by rw [Finset.mem_singleton.mp hp])
    (fun g u hg => by obtain ⟨t, rfl, ht⟩ := owe_pos hn hg; rw [lv_recv]; omega)

theorem mayWait_stage (c : Dev nD) (q : DmaSem sig) (hq : isRecv q = false) (O : CellTallies nD τ sig Unit) (hO : O = O₀ c ∨ O = 0) :
    (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (fun g u hg => by rcases O₀_pos hg with ⟨t, rfl⟩ | ⟨d, rfl⟩ <;> (rw [L_tc]; exact Finset.mem_singleton_self _))
      (fun p hp => by rw [Finset.mem_singleton.mp hp, lv_not_recv c q hq])
      (fun g u hg => by
        rcases O₀_pos hg with ⟨t, rfl⟩ | ⟨d, rfl⟩
        · rw [lv_recv]; omega
        · exact Nat.one_pos)
  · rw [MayWait_zero]; iintro -; iempintro

/-! ## The records: every semaphore's invariant, and that its round is open -/

/-- A semaphore's invariant, under some name, and that its round is open. -/
def known (g : GSem nD τ sig) : sProp 𝕄 := iprop((∃ κ : ℕ, cellInv ER (Rd m ρ) κ g) ∗ reached ER g 0)
instance known_persistent (g : GSem nD τ sig) : BI.Persistent (known (F := F) m ρ g) := by unfold known; infer_instance

/-- All of them, and the levels. -/
def ctx : sProp 𝕄 := iprop((bigSep Finset.univ fun p : Dev nD × Ce => known m ρ (kcell p)) ∗ (levAts L lv : sProp 𝕄))
instance ctx_persistent : BI.Persistent (ctx (F := F) m ρ) := by unfold ctx; infer_instance

theorem ctx_lev {X : sProp 𝕄} (h : (levAts L lv : sProp 𝕄) ⊢ X) : (ctx m ρ : sProp 𝕄) ⊢ X := by
  unfold ctx; iintro ⟨-, H⟩; iapply h; iexact H
theorem ctx_at (p : Dev nD × Ce) : (ctx m ρ : sProp 𝕄) ⊢ known m ρ (kcell p) := by
  have h : (bigSep Finset.univ fun p : Dev nD × Ce => known m ρ (kcell p)) ⊢ known m ρ (kcell p) := bigSep_elim (Finset.mem_univ p)
  unfold ctx; iintro ⟨H, -⟩; iapply h; iexact H
theorem ctx_bar (c : Dev nD) : (ctx m ρ : sProp 𝕄) ⊢ known m ρ (bCell c) := ctx_at m ρ (c, .inl ())
theorem ctx_dma (c : Dev nD) (i : DmaSem sig) (h : 2 ≤ i.val) : (ctx m ρ : sProp 𝕄) ⊢ known m ρ (dCell c i) := by
  rw [← kcell_dma c i h]; exact ctx_at m ρ _

/-- What device `c` owes, having waited for something. -/
def owesN (c : Dev nD) (O : CellTallies nD τ sig Unit) : sProp 𝕄 := iprop(∃ W : Waits sig Unit, owes (c : Thread nD τ) O W)

abbrev 𝒱₀ : Variants := Variants.none

end Cert.KernelIdeal.AR

end
-- ==== Proof.StepsKernelIdeal.lean ====
/-
# The kernel's operations, one exchange at a time

Starting an exchange, waiting for it, and adding what landed to the rows a device keeps: each stated once, for every
chunk, stage and device.
-/
module

public import proofs.«01_k».proof.Proof.SchedKernelIdeal

@[expose] public section

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What must hold for device `c` to run `p` and end at `Q`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Rows of the result buffer as the kernel's slices see them -/

theorem outPts_cut (e : Dev nD) {b n : ℕ} (h : b + n ≤ 1024) (f : Vec F S1024x1024 .f32) :
    outPts e b n f = ((cut b n h).view.loc (e : Thread nD τ) ↦[(cut b n h).view.set]{fullShare} f : sProp 𝕄) := by
  rw [set_cut]; rfl

theorem outPts_congr (e : Dev nD) {b n : ℕ} {f g : Vec F S1024x1024 .f32} (h : ∀ i ∈ rows b n, f i = g i) : (outPts e b n f : sProp 𝕄) = outPts e b n g :=
  pointsTo_congr h

theorem outPts_halves (ch s : Fin 4) (c : Dev nD) (f : Vec F S1024x1024 .f32) :
    (outPts c (base ch s c) (size ch s) f : sProp 𝕄)
      ⊣⊢ iprop(outPts c (base ch (s + 1) c) (hsz ch s) f ∗ outPts c (base ch (s + 1) (peer ch s c)) (hsz ch s) f) := by
  unfold outPts; rw [← rows_halves ch s c]; exact pointsTo_union (rows_halves_disjoint ch s c)

/-- Writing into some rows what another array reads there makes them that array's. -/
theorem write_cut_read {b n : ℕ} (h : b + n ≤ 1024) (fd fs : Vec F S1024x1024 .f32) :
    ∀ i ∈ rows b n, (cut b n h).view.write (Elt F) fd ((cut b n h).view.read (Elt F) fs) Finset.univ i = fs i := by
  intro i hi
  rw [View.write_read_eq_piecewise]
  exact Finset.piecewise_eq_of_mem _ _ _ (by rw [View.setOn_univ, set_cut]; exact hi)

theorem owe_succ (c : Dev nD) (r : ℕ) {t : Tr} (hr : nth (31 - r) = t) :
    owe c (r + 1) = owe c r + tallyAt (rCell (mate t c) t) () (amt t.2.1 t.2.2) := by
  subst hr; rfl

/-! ## Starting an exchange -/

set_option maxHeartbeats 400000 in
/-- On the way down: the rows given up go to the partner's landing buffer, and with them the rows themselves. -/
theorem start_down (c n : Dev nD) (ch s : Fin 4) (r : ℕ) (hn : n = peer ch s c) (hr : nth (31 - r) = (false, ch, s))
    {off : Fin 2 → ℕ} {inb : ∀ a, off a + (Sn (hsz ch s)).size a ≤ S1024x1024.size a} (ho : off = ![base ch (s + 1) (peer ch s c), 0])
    {ss rs : DmaSem sig} (hss : ss = sSem (false, ch, s)) (hrs : rs = rSem (false, ch, s))
    {hsc : (rb ch s : Memref sig (Dev.tc n : Thread nD τ).2.kind .vmem (Sn (hsz ch s)) .f32).view.ref.isScScratch = false}
    {hsrc : (oM.slice (Rect.unit (s := S1024x1024) off (Sn (hsz ch s)).size inb) (fun _ => rfl) : Memref sig .tc .vmem (Sn (hsz ch s)) .f32).view.WordExact}
    {hdst : (rb ch s).view.WordExact}
    {hsem : DmaTarget.Typed .vmem (.dma rs) (.remote (Dev.tc n : Thread nD τ) (rb ch s) (.dma ss) hsc)}
    {α : Type} {Q : α → sProp 𝕄} {k : PUnit → Prog (TpuEff nD τ sig (Elt F) Λ₀ .tc) α} :
    iprop(ctx m ρ ∗ outPts c (base ch (s + 1) (peer ch s c)) (hsz ch s) (V m ρ ch s c) ∗ rbAny (peer ch s c) ch s ∗ owesN c (owe c (r + 1))
        ∗ dutyTok ER (sCell c (false, ch, s)) 0 (0 : Fin 4) ∗ dutyTok ER (rCell (peer ch s c) (false, ch, s)) 0 (0 : Fin 4))
      ⊢ iprop(((cred (tallyAt (sCell c (false, ch, s)) () (amt ch s)) ∗ owesN c (owe c r)) -∗ WP c (k ⟨⟩) Q)
          -∗ WP c (.op (.enqueueDma (oM.slice (Rect.unit (s := S1024x1024) off (Sn (hsz ch s)).size inb) (fun _ => rfl))
              (.remote (Dev.tc n : Thread nD τ) (rb ch s) (.dma ss) hsc) (.dma rs) hsrc hdst hsem) k) Q) := by
  subst hn ho hss hrs
  have hS := ctx_dma m ρ c (sSem (false, ch, s)) (two_le_sSem _)
  have hR := ctx_dma m ρ (peer ch s c) (rSem (false, ch, s)) (two_le_rSem _)
  rw [outPts_cut c (base_le ch s (peer ch s c))]
  unfold rbAny owesN known at *
  iintro ⟨#Hc, Hsrc, ⟨%fd, Hdst⟩, ⟨%W, HO⟩, Hts, Htr⟩ Hk
  ihave #HS := hS $$ Hc
  ihave #HR := hR $$ Hc
  icases HS with ⟨⟨%κ₁, #HI₁⟩, #Hr₁⟩
  icases HR with ⟨⟨%κ₂, #HI₂⟩, #Hr₂⟩
  have hN : (rb ch s).view.amount (.dma (rSem (false, ch, s)) : SemLoc sig) = amt ch s := rfl
  have hO : owe c (r + 1) = owe c r + tallyAt (((peer ch s c : Dev nD) : Thread nD τ), (.dma (rSem (false, ch, s)) : SemLoc sig)) () (amt ch s) := by
    rw [owe_succ c r hr]
  have hA₁ : (Rd m ρ).amount ((c : Thread nD τ), (.dma (sSem (false, ch, s)) : SemLoc sig)) 0 0 = amt ch s := amount_send m ρ c (false, ch, s) 0
  have hA₂ : (Rd m ρ).amount (((peer ch s c : Dev nD) : Thread nD τ), (.dma (rSem (false, ch, s)) : SemLoc sig)) 0 0 = amt ch s := amount_recv m ρ (peer ch s c) (false, ch, s) 0
  iapply (Rounds.wp_send_landing_pointsTo 𝒱₀ ER (Rd m ρ) (c : Thread nD τ) none (κ₁ := κ₁) (κ₂ := κ₂) (r₁ := 0) (r₂ := 0) (d₁ := 0) (d₂ := 0)
    (c' := (peer ch s c : Thread nD τ)) (dst := rb ch s) (fs := V m ρ ch s c) (fd := fd) (O₀ := owe c (r + 1)) (W := W)
    (by rw [duties_dma m ρ c _ (two_le_sSem _)]; exact Finset.mem_singleton_self _)
    (by rw [duties_dma m ρ (peer ch s c) _ (two_le_rSem _)]; exact Finset.mem_singleton_self _)
    () () (amt ch s) hN hA₁ hA₂ (owe c r)
    hO
    (by rw [payload_send]; unfold sendPay; rw [if_neg Bool.false_ne_true])
    (by
      rw [payload_recv, ← outPts_cut c (base_le ch s (peer ch s c))]
      unfold recvPay owns
      rw [if_neg Bool.false_ne_true]
      iintro ⟨H1, H2⟩
      isplitl [H1]
      · iexists _; isplitr
        swap; · iexact H1
        ipureintro
        rw [View.read_write_univ]; unfold landed; rw [peer_peer]
      · iexists (V m ρ ch s c)
        rw [show mate (false, ch, s) (peer ch s c) = c from peer_peer ch s c]
        iexact H2)) $$ [Hsrc Hdst HO Hts Htr]
  · isplitr; · iexact HI₁
    isplitr; · iexact HI₂
    isplitl [Hsrc]; · iexact Hsrc
    isplitl [Hdst]; · iexact Hdst
    isplitl [HO]; · iexact HO
    isplitl [Hts]; · iexact Hts
    isplitr; · iexact Hr₁
    isplitl [Htr]; · iexact Htr
    iexact Hr₂
  iintro ⟨Hcr, HO⟩
  iapply Hk
  isplitl [Hcr]; · iexact Hcr
  iexists W; iexact HO

set_option maxHeartbeats 400000 in
/-- On the way back: the finished rows go to the partner's result buffer, the same rows there. -/
theorem start_back (c n : Dev nD) (ch s : Fin 4) (r : ℕ) (hn : n = peer ch s c) (hr : nth (31 - r) = (true, ch, s))
    {off off' : Fin 2 → ℕ} {inb : ∀ a, off a + (Sn (hsz ch s)).size a ≤ S1024x1024.size a} {inb' : ∀ a, off' a + (Sn (hsz ch s)).size a ≤ S1024x1024.size a}
    (ho : off = ![base ch (s + 1) c, 0]) (ho' : off' = ![base ch (s + 1) c, 0])
    {ss rs : DmaSem sig} (hss : ss = sSem (true, ch, s)) (hrs : rs = rSem (true, ch, s))
    {hsc : (oM.slice (Rect.unit (s := S1024x1024) off' (Sn (hsz ch s)).size inb') (fun _ => rfl) : Memref sig (Dev.tc n : Thread nD τ).2.kind .vmem (Sn (hsz ch s)) .f32).view.ref.isScScratch = false}
    {hsrc : (oM.slice (Rect.unit (s := S1024x1024) off (Sn (hsz ch s)).size inb) (fun _ => rfl) : Memref sig .tc .vmem (Sn (hsz ch s)) .f32).view.WordExact}
    {hdst : (oM.slice (Rect.unit (s := S1024x1024) off' (Sn (hsz ch s)).size inb') (fun _ => rfl) : Memref sig .tc .vmem (Sn (hsz ch s)) .f32).view.WordExact}
    {hsem : DmaTarget.Typed .vmem (.dma rs) (.remote (Dev.tc n : Thread nD τ) (oM.slice (Rect.unit (s := S1024x1024) off' (Sn (hsz ch s)).size inb') (fun _ => rfl)) (.dma ss) hsc)}
    {α : Type} {Q : α → sProp 𝕄} {k : PUnit → Prog (TpuEff nD τ sig (Elt F) Λ₀ .tc) α} :
    iprop(ctx m ρ ∗ outPts c (base ch (s + 1) c) (hsz ch s) (fin m ρ) ∗ (∃ f, outPts (peer ch s c) (base ch (s + 1) c) (hsz ch s) f) ∗ owesN c (owe c (r + 1))
        ∗ dutyTok ER (sCell c (true, ch, s)) 0 (0 : Fin 4) ∗ dutyTok ER (rCell (peer ch s c) (true, ch, s)) 0 (0 : Fin 4))
      ⊢ iprop(((cred (tallyAt (sCell c (true, ch, s)) () (amt ch s)) ∗ owesN c (owe c r)) -∗ WP c (k ⟨⟩) Q)
          -∗ WP c (.op (.enqueueDma (oM.slice (Rect.unit (s := S1024x1024) off (Sn (hsz ch s)).size inb) (fun _ => rfl))
              (.remote (Dev.tc n : Thread nD τ) (oM.slice (Rect.unit (s := S1024x1024) off' (Sn (hsz ch s)).size inb') (fun _ => rfl)) (.dma ss) hsc) (.dma rs) hsrc hdst hsem) k) Q) := by
  subst hn ho hss hrs ho'
  have hS := ctx_dma m ρ c (sSem (true, ch, s)) (two_le_sSem _)
  have hR := ctx_dma m ρ (peer ch s c) (rSem (true, ch, s)) (two_le_rSem _)
  rw [outPts_cut c (base_le ch s c), show (iprop(∃ f, outPts (peer ch s c) (base ch (s + 1) c) (hsz ch s) f) : sProp 𝕄)
    = iprop(∃ f, (seg ch s c).view.loc (peer ch s c : Thread nD τ) ↦[(seg ch s c).view.set]{fullShare} f) from by
      congr 1; funext f; exact outPts_cut _ (base_le ch s c) f]
  unfold owesN known at *
  iintro ⟨#Hc, Hsrc, ⟨%fd, Hdst⟩, ⟨%W, HO⟩, Hts, Htr⟩ Hk
  ihave #HS := hS $$ Hc
  ihave #HR := hR $$ Hc
  icases HS with ⟨⟨%κ₁, #HI₁⟩, #Hr₁⟩
  icases HR with ⟨⟨%κ₂, #HI₂⟩, #Hr₂⟩
  have hN : (seg ch s c).view.amount (.dma (rSem (true, ch, s)) : SemLoc sig) = amt ch s := rfl
  have hO : owe c (r + 1) = owe c r + tallyAt (((peer ch s c : Dev nD) : Thread nD τ), (.dma (rSem (true, ch, s)) : SemLoc sig)) () (amt ch s) := by
    rw [owe_succ c r hr]
  have hA₁ : (Rd m ρ).amount ((c : Thread nD τ), (.dma (sSem (true, ch, s)) : SemLoc sig)) 0 0 = amt ch s := amount_send m ρ c (true, ch, s) 0
  have hA₂ : (Rd m ρ).amount (((peer ch s c : Dev nD) : Thread nD τ), (.dma (rSem (true, ch, s)) : SemLoc sig)) 0 0 = amt ch s := amount_recv m ρ (peer ch s c) (true, ch, s) 0
  iapply (Rounds.wp_send_pointsTo 𝒱₀ ER (Rd m ρ) (c : Thread nD τ) none (κ₁ := κ₁) (κ₂ := κ₂) (r₁ := 0) (r₂ := 0) (d₁ := 0) (d₂ := 0)
    (c' := (peer ch s c : Thread nD τ)) (dst := seg ch s c) (fs := fin m ρ) (fd := fd) (O₀ := owe c (r + 1)) (W := W)
    (by rw [duties_dma m ρ c _ (two_le_sSem _)]; exact Finset.mem_singleton_self _)
    (by rw [duties_dma m ρ (peer ch s c) _ (two_le_rSem _)]; exact Finset.mem_singleton_self _)
    () () (amt ch s) hN hA₁ hA₂ (owe c r)
    hO
    (by
      rw [payload_send, ← outPts_cut c (base_le ch s c)]
      unfold sendPay; rw [if_pos rfl])
    (by
      rw [payload_recv]
      unfold recvPay
      rw [if_pos rfl, show mate (true, ch, s) (peer ch s c) = c from peer_peer ch s c]
      exact Entails.of_eq ((outPts_cut (peer ch s c) (base_le ch s c) _).symm.trans (outPts_congr _ (write_cut_read (base_le ch s c) fd (fin m ρ)))))) $$ [Hsrc Hdst HO Hts Htr]
  · isplitr; · iexact HI₁
    isplitr; · iexact HI₂
    isplitl [Hsrc]; · iexact Hsrc
    isplitl [Hdst]; · iexact Hdst
    isplitl [HO]; · iexact HO
    isplitl [Hts]; · iexact Hts
    isplitr; · iexact Hr₁
    isplitl [Htr]; · iexact Htr
    iexact Hr₂
  iintro ⟨Hcr, HO⟩
  iapply Hk
  isplitl [Hcr]; · iexact Hcr
  iexists W; iexact HO

/-! ## Waiting for it -/

/-- Waiting for the whole of a DMA semaphore's one round: its payload comes, and the semaphore is done with, at zero. -/
theorem wait_dma (c : Dev nD) (i : DmaSem sig) (hi : 2 ≤ i.val) (N r : ℕ) (hr : r ≤ 32) (hlv : lv (dCell c i) () < 2 + (32 - r))
    (hN : (Rd m ρ).expect (dCell c i) 0 = N)
    {i' : DmaSem sig} (hi' : i' = i)
    {sp sp' : Space} {s s' : Shape} {e e' : EltTy} {src : Memref sig .tc sp' s' e'} {dst : Memref sig .tc sp s e} (hd : dst.view.dmaCredit = N)
    {hsrc : src.view.WordExact} {hdst : dst.view.WordExact}
    {α : Type} {Q : α → sProp 𝕄} {k : PUnit → Prog (TpuEff nD τ sig (Elt F) Λ₀ .tc) α} :
    iprop(ctx m ρ ∗ cred (tallyAt (dCell c i) () N) ∗ owesN c (owe c r) ∗ atPos ER (dCell c i) 0 ∅ 0)
      ⊢ iprop(((owesN c (owe c r) ∗ semVal (dCell c i) 0
            ∗ bigSep ((Rd (F := F) m ρ).duties (dCell c i) 0 \ ∅) (fun d => (Rd (F := F) m ρ).payload (dCell c i) 0 d)) -∗ WP c (k ⟨⟩) Q)
          -∗ WP c (.op (.waitDma2 i' src dst hsrc hdst) k) Q) := by
  subst hi'
  have hS := ctx_dma m ρ c i' hi
  have hL : ctx m ρ ⊢ MayWait (c : Thread nD τ) (.dma i') () (owe c r) := by
    exact ctx_lev m ρ (mayWait_owe (F := F) c (.dma i') r hr hlv)
  unfold owesN known at *
  iintro ⟨#Hc, Hcr, ⟨%W, HO⟩, Hat⟩ Hk
  ihave #HS := hS $$ Hc
  icases HS with ⟨⟨%κ, #HI⟩, #Hr⟩
  iapply (Rounds.wp_wait_rest_token 𝒱₀ ER (Rd m ρ) (c : Thread nD τ) none (κ := κ)
      (wpE_waitDma2_eq 𝒱₀ (c : Thread nD τ) none Set.univ) (Set.mem_univ _) () (O := owe c r) (W := W) (R := 0) (m := 0) (T := ∅)
      (by rw [hN, Nat.zero_add, hd])) $$ [Hcr HO Hat]
  · isplitr; · iexact HI
    isplitl [Hcr]; · rw [hd]; iexact Hcr
    isplitl [HO]; · iexact HO
    isplitr; · iapply hL; iexact Hc
    iexact Hat
  iintro ⟨HO, Hat, -, Hpay⟩
  imod (Rounds.cell_close ER (Rd m ρ) (Set.mem_univ κ) (fun h => h) (R := 0 + 1) (duties_later m ρ (dCell c i'))) $$ [Hat] with Hz
  · isplitr; · iexact HI
    iexact Hat
  iapply Hk
  isplitl [HO]; · iexists _; iexact HO
  isplitl [Hz]; · iexact Hz
  iexact Hpay

theorem wait_send (c : Dev nD) (t : Tr) (r : ℕ) (hr : r ≤ 32) {i' : DmaSem sig} (hi' : i' = sSem t)
    {sp sp' : Space} {s s' : Shape} {e e' : EltTy} {src : Memref sig .tc sp' s' e'} {dst : Memref sig .tc sp s e} (hd : dst.view.dmaCredit = amt t.2.1 t.2.2)
    {hsrc : src.view.WordExact} {hdst : dst.view.WordExact}
    {α : Type} {Q : α → sProp 𝕄} {k : PUnit → Prog (TpuEff nD τ sig (Elt F) Λ₀ .tc) α} :
    iprop(ctx m ρ ∗ cred (tallyAt (sCell c t) () (amt t.2.1 t.2.2)) ∗ owesN c (owe c r) ∗ atPos ER (sCell c t) 0 ∅ 0)
      ⊢ iprop(((owesN c (owe c r) ∗ semVal (sCell c t) 0 ∗ sendPay m ρ t c) -∗ WP c (k ⟨⟩) Q)
          -∗ WP c (.op (.waitDma2 i' src dst hsrc hdst) k) Q) := by
  rw [← rest_send]
  exact wait_dma m ρ c (sSem t) (two_le_sSem t) _ r hr (by rw [lv_not_recv c _ (isRecv_sSem t)]; omega) (expect_send m ρ c t) hi' hd

theorem wait_recv (c : Dev nD) (t : Tr) (r : ℕ) (hr : ord t < 32 - r) {i' : DmaSem sig} (hi' : i' = rSem t)
    {sp sp' : Space} {s s' : Shape} {e e' : EltTy} {src : Memref sig .tc sp' s' e'} {dst : Memref sig .tc sp s e} (hd : dst.view.dmaCredit = amt t.2.1 t.2.2)
    {hsrc : src.view.WordExact} {hdst : dst.view.WordExact}
    {α : Type} {Q : α → sProp 𝕄} {k : PUnit → Prog (TpuEff nD τ sig (Elt F) Λ₀ .tc) α} :
    iprop(ctx m ρ ∗ cred (tallyAt (rCell c t) () (amt t.2.1 t.2.2)) ∗ owesN c (owe c r) ∗ atPos ER (rCell c t) 0 ∅ 0)
      ⊢ iprop(((owesN c (owe c r) ∗ semVal (rCell c t) 0 ∗ recvPay m ρ t c) -∗ WP c (k ⟨⟩) Q)
          -∗ WP c (.op (.waitDma2 i' src dst hsrc hdst) k) Q) := by
  rw [← rest_recv]
  exact wait_dma m ρ c (rSem t) (two_le_rSem t) _ r (by omega) (by rw [lv_recv]; omega) (expect_recv m ρ c t) hi' hd

/-! ## Adding what landed -/

theorem readAt_full {κ : Kind} {sp : Space} {s : Shape} {e : EltTy} (v : View sig κ sp s e) (f : v.ty.Contents (Elt F)) {off : Fin s.rank → ℕ}
    (inb : ∀ a, off a + s.size a ≤ s.size a) : v.readAt (Elt F) (Rect.unit off s.size inb).toLoadRect f = v.read (Elt F) f := by
  funext x
  refine congrArg (v.read (Elt F) f) (funext fun a => Fin.ext ?_)
  show off a + 1 * (x a).val = (x a).val
  have := inb a; omega

theorem setOn_full_subset {κ : Kind} {sp : Space} {s : Shape} {e : EltTy} (v : View sig κ sp s e) (M : Finset s.Idx) : v.setOn M ⊆ v.set :=
  Finset.map_subset_map.mpr (Finset.subset_univ M)

theorem write_add {ch s : Fin 4} (c : Dev nD) (w : (Sn (hsz ch s)).Idx → Elt F .f32)
    (hw : w = addf (F := F) (φ := .f32) (s := Sn (hsz ch s)) ((seg ch s c).view.read (Elt F) (V m ρ ch s c)) (landed m ρ c ch s)) :
    ∀ i ∈ rows (base ch (s + 1) c) (hsz ch s),
      (seg ch s c).view.write (Elt F) (V m ρ ch s c) w Finset.univ i = V m ρ ch (s + 1) c i := by
  intro i hi
  rw [← set_cut _ _ (base_le ch s c)] at hi
  obtain ⟨x, -, rfl⟩ := Finset.mem_map.mp hi
  rw [View.write_emb_of_mem _ _ (Finset.mem_univ x), hw]
  rfl

/-- The kernel reads the rows it keeps and what landed, and stores their sum. -/
theorem add_step (c : Dev nD) (ch s : Fin 4)
    {off off' off'' : Fin 2 → ℕ} {inb : ∀ a, off a + (Sn (hsz ch s)).size a ≤ S1024x1024.size a}
    {inb' : ∀ a, off' a + (Sn (hsz ch s)).size a ≤ S1024x1024.size a} {inb'' : ∀ a, off'' a + (Sn (hsz ch s)).size a ≤ S1024x1024.size a}
    (ho : off = ![base ch (s + 1) c, 0]) (ho' : off' = ![base ch (s + 1) c, 0]) (ho'' : off'' = ![base ch (s + 1) c, 0])
    {z : Fin 2 → ℕ} {inz : ∀ a, z a + (Sn (hsz ch s)).size a ≤ (Sn (hsz ch s)).size a}
    {pay : Vec F (Sn (hsz ch s)) .f32 → Vec F (Sn (hsz ch s)) .f32 → Vec F (Sn (hsz ch s)) .f32}
    (hpay : ∀ a b, pay a b = addf (F := F) (φ := .f32) (s := Sn (hsz ch s)) a b)
    {hl hl' hl''} {hx hm}
    {α : Type} {Q : α → sProp 𝕄} {k : PUnit → Prog (TpuEff nD τ sig (Elt F) Λ₀ .tc) α} :
    iprop(outPts c (base ch (s + 1) c) (hsz ch s) (V m ρ ch s c) ∗ owns (c : Thread nD τ) (rb ch s) fullShare (landed m ρ c ch s))
      ⊢ iprop(((outPts c (base ch (s + 1) c) (hsz ch s) (V m ρ ch (s + 1) c) ∗ rbAny c ch s) -∗ WP c (k ⟨⟩) Q)
          -∗ WP c (.op (.load oM (Rect.unit (s := S1024x1024) off (Sn (hsz ch s)).size inb).toLoadRect hl) fun v1 =>
              .op (.load (rb ch s) (Rect.unit (s := Sn (hsz ch s)) z (Sn (hsz ch s)).size inz).toLoadRect hl') fun v2 =>
              .op (.load oM (Rect.unit (s := S1024x1024) off' (Sn (hsz ch s)).size inb').toLoadRect hl'') fun v3 =>
              .op (.store oM (Rect.unit (s := S1024x1024) off'' (Sn (hsz ch s)).size inb'') (pay v1 v2) Finset.univ hx hm) k) Q) := by
  subst ho ho' ho''
  rw [outPts_cut c (base_le ch s c)]
  unfold owns
  iintro ⟨Hout, ⟨%f, %hf, Hrb⟩⟩ Hk
  iapply (wp_load_rect 𝒱₀ (c : Thread nD τ) none Set.univ (m := oM) (r := Rect.unit (s := S1024x1024) ![base ch (s + 1) c, 0] (Sn (hsz ch s)).size inb) (subset_refl _)) $$ Hout; iintro Hout
  iapply (wp_load 𝒱₀ (c : Thread nD τ) none Set.univ (m := rb ch s) (setOn_full_subset _ _)) $$ Hrb; iintro Hrb
  iapply (wp_load_rect 𝒱₀ (c : Thread nD τ) none Set.univ (m := oM) (r := Rect.unit (s := S1024x1024) ![base ch (s + 1) c, 0] (Sn (hsz ch s)).size inb) (subset_refl _)) $$ Hout; iintro Hout
  iapply (wp_store 𝒱₀ (c : Thread nD τ) none Set.univ (m := oM) (r := Rect.unit (s := S1024x1024) ![base ch (s + 1) c, 0] (Sn (hsz ch s)).size inb) (Mk := Finset.univ) (setOn_full_subset _ _)) $$ Hout; iintro Hout
  iapply Hk
  isplitl [Hout]
  · rw [readAt_full, hf, hpay, ← outPts_congr c (write_add m ρ c _ rfl), outPts_cut c (base_le ch s c)]
    iexact Hout
  · unfold rbAny; iexists f; iexact Hrb

end Cert.KernelIdeal.AR

end
-- ==== Proof.CourseKernelIdeal.lean ====
/-
# A chunk's course

What a device holds of a chunk between two exchanges, and how each exchange takes it from one such state to the next.
-/
module

public import proofs.«01_k».proof.Proof.StepsKernelIdeal

@[expose] public section

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device holds of one chunk, between two exchanges -/

/-- A stage by its number. -/
def st (k : ℕ) : Fin 4 := Fin.ofNat 4 k
theorem st_val (s : Fin 4) : st s.val = s := by revert s; decide
theorem st_sub (s s' : Fin 4) (k : ℕ) (h : s'.val = s.val + 1) (hk : k + s.val = 2) : st (3 - k) = s' := by
  apply Fin.ext; show (3 - k) % 4 = s'.val; omega

/-- What one exchange needs to be run: its two semaphores at their round, the right to signal the sender's and the
    partner's receiver's, and the units the partner will signal here. -/
def Kit (t : Tr) (c : Dev nD) : sProp 𝕄 :=
  iprop(dutyTok ER (sCell c t) 0 (0 : Fin 4) ∗ dutyTok ER (rCell (mate t c) t) 0 (0 : Fin 4)
    ∗ atPos ER (sCell c t) 0 ∅ 0 ∗ atPos ER (rCell c t) 0 ∅ 0 ∗ cred (tallyAt (rCell c t) () (amt t.2.1 t.2.2)))
/-- An exchange in flight. -/
def Flight (t : Tr) (c : Dev nD) : sProp 𝕄 :=
  iprop(cred (tallyAt (sCell c t) () (amt t.2.1 t.2.2)) ∗ atPos ER (sCell c t) 0 ∅ 0 ∗ atPos ER (rCell c t) 0 ∅ 0
    ∗ cred (tallyAt (rCell c t) () (amt t.2.1 t.2.2)))
/-- An exchange done with: both its semaphores back at zero. -/
def Done (t : Tr) (c : Dev nD) : sProp 𝕄 := iprop(semVal (sCell c t) 0 ∗ semVal (rCell c t) 0)

/-- The partner's copy of the rows kept at a stage. -/
def lent (ch : Fin 4) (k : ℕ) (c : Dev nD) : sProp 𝕄 := iprop(∃ f, outPts (F := F) (peer ch (st k) c) (base ch (k + 1) c) (hsz ch k) f)

/-- The first `k` stages' exchanges on the way down, done with; -/
def after (ch : Fin 4) : ℕ → Dev nD → sProp 𝕄
  | 0, _ => iprop(emp)
  | k + 1, c => iprop(after ch k c ∗ Done (false, ch, st k) c ∗ rbAny (F := F) c ch (st k))
/-- the last `k` stages' exchanges on the way down, to come; -/
def ahead (ch : Fin 4) : ℕ → Dev nD → sProp 𝕄
  | 0, _ => iprop(emp)
  | k + 1, c => iprop(ahead ch k c ∗ Kit (false, ch, st (3 - k)) c ∗ rbAny (F := F) (peer ch (st (3 - k)) c) ch (st (3 - k)))
/-- the partners' copies of the rows kept at the first `k` stages; -/
def lents (ch : Fin 4) : ℕ → Dev nD → sProp 𝕄
  | 0, _ => iprop(emp)
  | k + 1, c => iprop(lents ch k c ∗ lent (F := F) ch k c)
/-- the first `k` stages' exchanges on the way back, to come; -/
def behind (ch : Fin 4) : ℕ → Dev nD → sProp 𝕄
  | 0, _ => iprop(emp)
  | k + 1, c => iprop(behind ch k c ∗ Kit (F := F) (true, ch, st k) c)
/-- and the last `k` stages' exchanges on the way back, done with. -/
def returned (ch : Fin 4) : ℕ → Dev nD → sProp 𝕄
  | 0, _ => iprop(emp)
  | k + 1, c => iprop(returned ch k c ∗ Done (F := F) (true, ch, st (3 - k)) c)

theorem after_succ (ch : Fin 4) (k : ℕ) (c : Dev nD) :
    (after ch (k + 1) c : sProp 𝕄) = iprop(after ch k c ∗ Done (false, ch, st k) c ∗ rbAny (F := F) c ch (st k)) := rfl
theorem ahead_succ (ch : Fin 4) (k : ℕ) (c : Dev nD) :
    (ahead ch (k + 1) c : sProp 𝕄) = iprop(ahead ch k c ∗ Kit (false, ch, st (3 - k)) c ∗ rbAny (F := F) (peer ch (st (3 - k)) c) ch (st (3 - k))) := rfl
theorem lents_succ (ch : Fin 4) (k : ℕ) (c : Dev nD) : (lents ch (k + 1) c : sProp 𝕄) = iprop(lents ch k c ∗ lent (F := F) ch k c) := rfl
theorem behind_succ (ch : Fin 4) (k : ℕ) (c : Dev nD) : (behind ch (k + 1) c : sProp 𝕄) = iprop(behind ch k c ∗ Kit (F := F) (true, ch, st k) c) := rfl
theorem returned_succ (ch : Fin 4) (k : ℕ) (c : Dev nD) :
    (returned ch (k + 1) c : sProp 𝕄) = iprop(returned ch k c ∗ Done (F := F) (true, ch, st (3 - k)) c) := rfl

theorem recvPay_down (ch s : Fin 4) (c : Dev nD) : recvPay m ρ (false, ch, s) c
    ⊢ iprop(owns (c : Thread nD τ) (rb ch s) fullShare (landed m ρ c ch s) ∗ ∃ f, outPts (F := F) (peer ch s c) (base ch (s + 1) c) (hsz ch s) f) := by
  unfold recvPay; rw [if_neg Bool.false_ne_true]
theorem recvPay_back (ch s : Fin 4) (c : Dev nD) :
    recvPay m ρ (true, ch, s) c ⊢ outPts (F := F) c (base ch (s + 1) (peer ch s c)) (hsz ch s) (fin m ρ) := by
  unfold recvPay; rw [if_pos rfl]
theorem sendPay_back (ch s : Fin 4) (c : Dev nD) : sendPay m ρ (true, ch, s) c ⊢ outPts (F := F) c (base ch (s + 1) c) (hsz ch s) (fin m ρ) := by
  unfold sendPay; rw [if_pos rfl]

/-- A chunk before its first exchange; -/
def Ready (ch : Fin 4) (c : Dev nD) : sProp 𝕄 :=
  iprop(outPts c (base ch 0 c) (size ch 0) (V m ρ ch 0 c) ∗ ahead ch 4 c ∗ behind ch 4 c)
/-- with the exchange of stage `s` on the way down in flight; -/
def Down (ch s : Fin 4) (c : Dev nD) : sProp 𝕄 :=
  iprop(Flight (false, ch, s) c ∗ outPts c (base ch (s + 1) c) (hsz ch s) (V m ρ ch s c)
    ∗ after ch s c ∗ lents ch s c ∗ ahead ch (3 - s) c ∗ behind ch 4 c)
/-- with the exchange of stage `s` on the way back in flight; -/
def Back (ch s : Fin 4) (c : Dev nD) : sProp 𝕄 :=
  iprop(Flight (F := F) (true, ch, s) c ∗ after ch 4 c ∗ lents ch s c ∗ behind ch s c ∗ returned ch (3 - s) c)
/-- and with all of them done, the chunk's rows finished. -/
def Over (ch : Fin 4) (c : Dev nD) : sProp 𝕄 :=
  iprop(outPts c (base ch 0 c) (size ch 0) (fin m ρ) ∗ after ch 4 c ∗ returned ch 4 c)

/-! ## One exchange after another -/

/-- The first exchange of a chunk starts. -/
theorem first_start (c n : Dev nD) (ch : Fin 4) (r : ℕ) (hn : n = peer ch 0 c) (hr : nth (31 - r) = (false, ch, 0))
    {off : Fin 2 → ℕ} {inb : ∀ a, off a + (Sn (hsz ch (0 : Fin 4))).size a ≤ S1024x1024.size a} (ho : off = ![base ch ((0 : Fin 4) + 1) (peer ch 0 c), 0])
    {ss rs : DmaSem sig} (hss : ss = sSem (false, ch, 0)) (hrs : rs = rSem (false, ch, 0))
    {hsc hsrc hdst hsem}
    {α : Type} {Q : α → sProp 𝕄} {k : PUnit → Prog (TpuEff nD τ sig (Elt F) Λ₀ .tc) α} :
    iprop(ctx m ρ ∗ Ready m ρ ch c ∗ owesN c (owe c (r + 1)))
      ⊢ iprop(((Down m ρ ch 0 c ∗ owesN c (owe c r)) -∗ WP c (k ⟨⟩) Q)
          -∗ WP c (.op (.enqueueDma (oM.slice (Rect.unit (s := S1024x1024) off (Sn (hsz ch (0 : Fin 4))).size inb) (fun _ => rfl))
              (.remote (Dev.tc n : Thread nD τ) (rb ch 0) (.dma ss) hsc) (.dma rs) hsrc hdst hsem) k) Q) := by
  have hh : (outPts c (base ch 0 c) (size ch 0) (V m ρ ch 0 c) : sProp 𝕄)
      ⊢ iprop(outPts c (base ch ((0 : Fin 4) + 1) c) (hsz ch (0 : Fin 4)) (V m ρ ch (0 : Fin 4) c)
        ∗ outPts c (base ch ((0 : Fin 4) + 1) (peer ch 0 c)) (hsz ch (0 : Fin 4)) (V m ρ ch (0 : Fin 4) c)) :=
    (outPts_halves ch 0 c (V m ρ ch 0 c)).1
  unfold Ready Down Flight
  show iprop(ctx m ρ ∗ (_ ∗ (ahead ch 3 c ∗ Kit (false, ch, 0) c ∗ rbAny (peer ch 0 c) ch 0) ∗ _) ∗ _) ⊢ _
  unfold Kit
  iintro ⟨#Hc, ⟨Hrows, ⟨Ha, ⟨Hts, Htr, Hps, Hpr, Hcr⟩, Hrb⟩, Hb⟩, HO⟩ Hk
  ihave Hrows := hh $$ Hrows
  icases Hrows with ⟨Hkeep, Hgive⟩
  iapply (start_down m ρ c n ch 0 r hn hr ho hss hrs) $$ [Hgive Hrb HO Hts Htr]
  · isplitr; · iexact Hc
    isplitl [Hgive]; · iexact Hgive
    isplitl [Hrb]; · iexact Hrb
    isplitl [HO]; · iexact HO
    isplitl [Hts]; · iexact Hts
    iexact Htr
  iintro ⟨Hcs, HO⟩
  iapply Hk
  isplitr [HO]
  swap; · iexact HO
  isplitl [Hcs Hps Hpr Hcr]
  · isplitl [Hcs]; · iexact Hcs
    isplitl [Hps]; · iexact Hps
    isplitl [Hpr]; · iexact Hpr
    iexact Hcr
  isplitl [Hkeep]; · iexact Hkeep
  isplitr; · unfold after; iempintro
  isplitr; · unfold lents; iempintro
  isplitl [Ha]; · iexact Ha
  iexact Hb

/-- Waiting for a stage on the way down and adding what landed: the chunk's state afterwards, before the next exchange. -/
def Summed (ch s : Fin 4) (c : Dev nD) : sProp 𝕄 :=
  iprop(outPts c (base ch (s + 1) c) (hsz ch s) (V m ρ ch (s + 1) c) ∗ after ch (s + 1) c ∗ lents ch (s + 1) c ∗ ahead ch (3 - s) c ∗ behind ch 4 c)

theorem down_sum (c : Dev nD) (ch s : Fin 4) (r : ℕ) (hr : ord (false, ch, s) < 32 - r)
    {i₁ i₂ : DmaSem sig} (h₁ : i₁ = sSem (false, ch, s)) (h₂ : i₂ = rSem (false, ch, s))
    {sp₁ sp₁' sp₂ sp₂' : Space} {s₁ s₁' s₂ s₂' : Shape} {e₁ e₁' e₂ e₂' : EltTy}
    {src₁ : Memref sig .tc sp₁' s₁' e₁'} {dst₁ : Memref sig .tc sp₁ s₁ e₁} (hd₁ : dst₁.view.dmaCredit = amt ch s)
    {src₂ : Memref sig .tc sp₂' s₂' e₂'} {dst₂ : Memref sig .tc sp₂ s₂ e₂} (hd₂ : dst₂.view.dmaCredit = amt ch s)
    {off off' off'' : Fin 2 → ℕ} {inb : ∀ a, off a + (Sn (hsz ch s)).size a ≤ S1024x1024.size a}
    {inb' : ∀ a, off' a + (Sn (hsz ch s)).size a ≤ S1024x1024.size a} {inb'' : ∀ a, off'' a + (Sn (hsz ch s)).size a ≤ S1024x1024.size a}
    (ho : off = ![base ch (s + 1) c, 0]) (ho' : off' = ![base ch (s + 1) c, 0]) (ho'' : off'' = ![base ch (s + 1) c, 0])
    {z : Fin 2 → ℕ} {inz : ∀ a, z a + (Sn (hsz ch s)).size a ≤ (Sn (hsz ch s)).size a}
    {pay : Vec F (Sn (hsz ch s)) .f32 → Vec F (Sn (hsz ch s)) .f32 → Vec F (Sn (hsz ch s)) .f32}
    (hpay : ∀ a b, pay a b = addf (F := F) (φ := .f32) (s := Sn (hsz ch s)) a b)
    {w₁ w₁' w₂ w₂' hl hl' hl'' hx hm}
    {α : Type} {Q : α → sProp 𝕄} {k : PUnit → Prog (TpuEff nD τ sig (Elt F) Λ₀ .tc) α} :
    iprop(ctx m ρ ∗ Down m ρ ch s c ∗ owesN c (owe c r))
      ⊢ iprop(((Summed m ρ ch s c ∗ owesN c (owe c r)) -∗ WP c (k ⟨⟩) Q)
          -∗ WP c (.op (.waitDma2 i₁ src₁ dst₁ w₁ w₁') fun _ => .op (.waitDma2 i₂ src₂ dst₂ w₂ w₂') fun _ =>
              .op (.load oM (Rect.unit (s := S1024x1024) off (Sn (hsz ch s)).size inb).toLoadRect hl) fun v1 =>
              .op (.load (rb ch s) (Rect.unit (s := Sn (hsz ch s)) z (Sn (hsz ch s)).size inz).toLoadRect hl') fun v2 =>
              .op (.load oM (Rect.unit (s := S1024x1024) off' (Sn (hsz ch s)).size inb').toLoadRect hl'') fun v3 =>
              .op (.store oM (Rect.unit (s := S1024x1024) off'' (Sn (hsz ch s)).size inb'') (pay v1 v2) Finset.univ hx hm) k) Q) := by
  unfold Down Flight Summed
  rw [after_succ, lents_succ]
  unfold Done lent
  rw [st_val]
  iintro ⟨#Hc, ⟨⟨Hcs, Hps, Hpr, Hcr⟩, Hrows, Haf, Hle, Hrest⟩, HO⟩ Hk
  iapply (wait_send m ρ c (false, ch, s) r (by omega) h₁ hd₁) $$ [Hcs HO Hps]
  · isplitr; · iexact Hc
    isplitl [Hcs]; · iexact Hcs
    isplitl [HO]; · iexact HO
    iexact Hps
  iintro ⟨HO, Hzs, -⟩
  iapply (wait_recv m ρ c (false, ch, s) r hr h₂ hd₂) $$ [Hcr HO Hpr]
  · isplitr; · iexact Hc
    isplitl [Hcr]; · iexact Hcr
    isplitl [HO]; · iexact HO
    iexact Hpr
  iintro ⟨HO, Hzr, Hpay⟩
  ihave Hpay := (recvPay_down m ρ ch s c) $$ Hpay
  icases Hpay with ⟨Hland, Hlent⟩
  iapply (add_step m ρ c ch s ho ho' ho'' hpay) $$ [Hrows Hland]
  · isplitl [Hrows]; · iexact Hrows
    iexact Hland
  iintro ⟨Hrows, Hrb⟩
  iapply Hk
  isplitr [HO]
  swap; · iexact HO
  isplitl [Hrows]; · iexact Hrows
  isplitl [Haf Hzs Hzr Hrb]
  · isplitl [Haf]; · iexact Haf
    isplitl [Hzs Hzr]
    · isplitl [Hzs]; · iexact Hzs
      iexact Hzr
    iexact Hrb
  isplitl [Hle Hlent]
  · isplitl [Hle]; · iexact Hle
    iexact Hlent
  iexact Hrest

/-- The next stage on the way down starts. -/
theorem down_next (c n : Dev nD) (ch s s' : Fin 4) (hs : s'.val = s.val + 1) (r : ℕ) (hn : n = peer ch s' c) (hr : nth (31 - r) = (false, ch, s'))
    {off : Fin 2 → ℕ} {inb : ∀ a, off a + (Sn (hsz ch s')).size a ≤ S1024x1024.size a} (ho : off = ![base ch (s' + 1) (peer ch s' c), 0])
    {ss rs : DmaSem sig} (hss : ss = sSem (false, ch, s')) (hrs : rs = rSem (false, ch, s'))
    {hsc hsrc hdst hsem}
    {α : Type} {Q : α → sProp 𝕄} {k : PUnit → Prog (TpuEff nD τ sig (Elt F) Λ₀ .tc) α} :
    iprop(ctx m ρ ∗ Summed m ρ ch s c ∗ owesN c (owe c (r + 1)))
      ⊢ iprop(((Down m ρ ch s' c ∗ owesN c (owe c r)) -∗ WP c (k ⟨⟩) Q)
          -∗ WP c (.op (.enqueueDma (oM.slice (Rect.unit (s := S1024x1024) off (Sn (hsz ch s')).size inb) (fun _ => rfl))
              (.remote (Dev.tc n : Thread nD τ) (rb ch s') (.dma ss) hsc) (.dma rs) hsrc hdst hsem) k) Q) := by
  obtain ⟨j, hj, hj'⟩ : ∃ j, j + s.val = 2 ∧ 3 - s'.val = j := ⟨2 - s.val, by have := s'.isLt; omega, by omega⟩
  have hh : (outPts c (base ch s' c) (hsz ch s) (V m ρ ch s' c) : sProp 𝕄)
      ⊢ iprop(outPts c (base ch (s' + 1) c) (hsz ch s') (V m ρ ch s' c) ∗ outPts c (base ch (s' + 1) (peer ch s' c)) (hsz ch s') (V m ρ ch s' c)) := by
    have h := (outPts_halves ch s' c (V m ρ ch s' c)).1
    rw [show size ch s' = hsz ch s by rw [hs]; rfl] at h
    exact h
  unfold Summed Down Flight
  rw [show 3 - s.val = j + 1 by omega, hj', ← hs]
  rw [ahead_succ, st_sub s s' j hs hj]
  unfold Kit
  iintro ⟨#Hc, ⟨Hrows, Haf, Hle, ⟨Ha, ⟨Hts, Htr, Hps, Hpr, Hcr⟩, Hrb⟩, Hb⟩, HO⟩ Hk
  ihave Hrows := hh $$ Hrows
  icases Hrows with ⟨Hkeep, Hgive⟩
  iapply (start_down m ρ c n ch s' r hn hr ho hss hrs) $$ [Hgive Hrb HO Hts Htr]
  · isplitr; · iexact Hc
    isplitl [Hgive]; · iexact Hgive
    isplitl [Hrb]; · iexact Hrb
    isplitl [HO]; · iexact HO
    isplitl [Hts]; · iexact Hts
    iexact Htr
  iintro ⟨Hcs, HO⟩
  iapply Hk
  isplitr [HO]
  swap; · iexact HO
  isplitl [Hcs Hps Hpr Hcr]
  · isplitl [Hcs]; · iexact Hcs
    isplitl [Hps]; · iexact Hps
    isplitl [Hpr]; · iexact Hpr
    iexact Hcr
  isplitl [Hkeep]; · iexact Hkeep
  isplitl [Haf]; · iexact Haf
  isplitl [Hle]; · iexact Hle
  isplitl [Ha]; · iexact Ha
  iexact Hb

/-- A chunk between two exchanges on the way back: the rows held before stage `s` are finished, and the stages below it
    are to come. -/
def Finished (ch : Fin 4) (k : ℕ) (c : Dev nD) : sProp 𝕄 :=
  iprop(outPts c (base ch k c) (size ch k) (fin m ρ) ∗ after ch 4 c ∗ lents ch k c ∗ behind ch k c ∗ returned ch (4 - k) c)

/-- The last sum on the way down is finished. -/
theorem turn (c : Dev nD) (ch : Fin 4) : (Summed m ρ ch 3 c : sProp 𝕄) ⊢ Finished m ρ ch 4 c := by
  unfold Summed Finished
  have hf : (outPts c (base ch ((3 : Fin 4) + 1) c) (hsz ch (3 : Fin 4)) (V m ρ ch ((3 : Fin 4) + 1) c) : sProp 𝕄)
      = outPts c (base ch 4 c) (size ch 4) (fin m ρ) := (outPts_congr c fun i hi => fin_eq m ρ ch c hi).symm
  rw [hf]
  iintro ⟨Hrows, Haf, Hle, -, Hb⟩
  isplitl [Hrows]; · iexact Hrows
  isplitl [Haf]; · iexact Haf
  isplitl [Hle]; · iexact Hle
  isplitl [Hb]; · iexact Hb
  unfold returned; iempintro

/-- A stage on the way back starts. -/
theorem back_next (c n : Dev nD) (ch s : Fin 4) (r : ℕ) (hn : n = peer ch s c) (hr : nth (31 - r) = (true, ch, s))
    {off off' : Fin 2 → ℕ} {inb : ∀ a, off a + (Sn (hsz ch s)).size a ≤ S1024x1024.size a} {inb' : ∀ a, off' a + (Sn (hsz ch s)).size a ≤ S1024x1024.size a}
    (ho : off = ![base ch (s + 1) c, 0]) (ho' : off' = ![base ch (s + 1) c, 0])
    {ss rs : DmaSem sig} (hss : ss = sSem (true, ch, s)) (hrs : rs = rSem (true, ch, s))
    {hsc hsrc hdst hsem}
    {α : Type} {Q : α → sProp 𝕄} {k : PUnit → Prog (TpuEff nD τ sig (Elt F) Λ₀ .tc) α} :
    iprop(ctx m ρ ∗ Finished m ρ ch (s + 1) c ∗ owesN c (owe c (r + 1)))
      ⊢ iprop(((Back (F := F) ch s c ∗ owesN c (owe c r)) -∗ WP c (k ⟨⟩) Q)
          -∗ WP c (.op (.enqueueDma (oM.slice (Rect.unit (s := S1024x1024) off (Sn (hsz ch s)).size inb) (fun _ => rfl))
              (.remote (Dev.tc n : Thread nD τ) (oM.slice (Rect.unit (s := S1024x1024) off' (Sn (hsz ch s)).size inb') (fun _ => rfl)) (.dma ss) hsc) (.dma rs) hsrc hdst hsem) k) Q) := by
  unfold Finished Back Flight
  rw [show 4 - (s.val + 1) = 3 - s.val by omega, size_succ]
  rw [lents_succ, behind_succ]
  unfold lent Kit
  rw [st_val]
  iintro ⟨#Hc, ⟨Hrows, Haf, ⟨Hle, Hl⟩, ⟨Hb, ⟨Hts, Htr, Hps, Hpr, Hcr⟩⟩, Hre⟩, HO⟩ Hk
  iapply (start_back m ρ c n ch s r hn hr ho ho' hss hrs) $$ [Hrows Hl HO Hts Htr]
  · isplitr; · iexact Hc
    isplitl [Hrows]; · iexact Hrows
    isplitl [Hl]; · iexact Hl
    isplitl [HO]; · iexact HO
    isplitl [Hts]; · iexact Hts
    iexact Htr
  iintro ⟨Hcs, HO⟩
  iapply Hk
  isplitr [HO]
  swap; · iexact HO
  isplitl [Hcs Hps Hpr Hcr]
  · isplitl [Hcs]; · iexact Hcs
    isplitl [Hps]; · iexact Hps
    isplitl [Hpr]; · iexact Hpr
    iexact Hcr
  isplitl [Haf]; · iexact Haf
  isplitl [Hle]; · iexact Hle
  isplitl [Hb]; · iexact Hb
  iexact Hre

/-- Waiting for a stage on the way back: the rows held before it are finished. -/
theorem back_join (c : Dev nD) (ch s : Fin 4) (r : ℕ) (hr : ord (true, ch, s) < 32 - r)
    {i₁ i₂ : DmaSem sig} (h₁ : i₁ = sSem (true, ch, s)) (h₂ : i₂ = rSem (true, ch, s))
    {sp₁ sp₁' sp₂ sp₂' : Space} {s₁ s₁' s₂ s₂' : Shape} {e₁ e₁' e₂ e₂' : EltTy}
    {src₁ : Memref sig .tc sp₁' s₁' e₁'} {dst₁ : Memref sig .tc sp₁ s₁ e₁} (hd₁ : dst₁.view.dmaCredit = amt ch s)
    {src₂ : Memref sig .tc sp₂' s₂' e₂'} {dst₂ : Memref sig .tc sp₂ s₂ e₂} (hd₂ : dst₂.view.dmaCredit = amt ch s)
    {w₁ w₁' w₂ w₂'}
    {α : Type} {Q : α → sProp 𝕄} {k : PUnit → Prog (TpuEff nD τ sig (Elt F) Λ₀ .tc) α} :
    iprop(ctx m ρ ∗ Back (F := F) ch s c ∗ owesN c (owe c r))
      ⊢ iprop(((Finished m ρ ch s c ∗ owesN c (owe c r)) -∗ WP c (k ⟨⟩) Q)
          -∗ WP c (.op (.waitDma2 i₁ src₁ dst₁ w₁ w₁') fun _ => .op (.waitDma2 i₂ src₂ dst₂ w₂ w₂') k) Q) := by
  have hh := (outPts_halves ch s c (fin m ρ)).2
  unfold Back Flight Finished
  rw [show 4 - s.val = (3 - s.val) + 1 by have := s.isLt; omega]
  rw [returned_succ]
  unfold Done
  rw [show 3 - (3 - s.val) = s.val by have := s.isLt; omega, st_val]
  iintro ⟨#Hc, ⟨⟨Hcs, Hps, Hpr, Hcr⟩, Haf, Hle, Hb, Hre⟩, HO⟩ Hk
  iapply (wait_send m ρ c (true, ch, s) r (by omega) h₁ hd₁) $$ [Hcs HO Hps]
  · isplitr; · iexact Hc
    isplitl [Hcs]; · iexact Hcs
    isplitl [HO]; · iexact HO
    iexact Hps
  iintro ⟨HO, Hzs, Hmine⟩
  iapply (wait_recv m ρ c (true, ch, s) r hr h₂ hd₂) $$ [Hcr HO Hpr]
  · isplitr; · iexact Hc
    isplitl [Hcr]; · iexact Hcr
    isplitl [HO]; · iexact HO
    iexact Hpr
  iintro ⟨HO, Hzr, Htheirs⟩
  ihave Hmine := (sendPay_back m ρ ch s c) $$ Hmine
  ihave Htheirs := (recvPay_back m ρ ch s c) $$ Htheirs
  ihave Hrows := hh $$ [Hmine Htheirs]
  · isplitl [Hmine]; · iexact Hmine
    iexact Htheirs
  iapply Hk
  isplitr [HO]
  swap; · iexact HO
  isplitl [Hrows]; · iexact Hrows
  isplitl [Haf]; · iexact Haf
  isplitl [Hle]; · iexact Hle
  isplitl [Hb]; · iexact Hb
  isplitl [Hre]; · iexact Hre
  isplitl [Hzs]; · iexact Hzs
  iexact Hzr

/-- After the last of them the chunk is over. -/
theorem finished_over (c : Dev nD) (ch : Fin 4) : (Finished m ρ ch (0 : Fin 4) c : sProp 𝕄) ⊢ Over m ρ ch c := by
  unfold Finished Over
  iintro ⟨Hrows, Haf, -, -, Hre⟩
  isplitl [Hrows]; · iexact Hrows
  isplitl [Haf]; · iexact Haf
  iexact Hre

end Cert.KernelIdeal.AR

end
-- ==== Proof.OpeningKernelIdeal.lean ====
/-
# Up to the first exchange

Every device signals its four partners, handing each the landing buffers it will write, waits for their four signals, and
stores its own block as the first partial sums. What it then holds is sorted by chunk.
-/
module

public import proofs.«01_k».proof.Proof.CourseKernelIdeal

@[expose] public section

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Sharing out -/

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- Something of every chunk and stage, sorted by the direction of its partner. -/
theorem by_direction (Φ : Fin 4 × Fin 4 → sProp 𝕄) :
    bigSep Finset.univ Φ = bigSep Finset.univ fun d : Fin 4 => bigSep Finset.univ fun p : Fin 4 × Fin 4 => if perm p.1 p.2 = d then Φ p else iprop(emp) := by
  rw [bigSep_univ_comm]
  refine bigSep_congr fun p _ => ?_
  refine Eq.trans ?_ (bigSep_filter Finset.univ (fun d => perm p.1 p.2 = d) (fun _ => Φ p))
  rw [Finset.filter_eq, if_pos (Finset.mem_univ _), bigSep_singleton]

/-- A device's landing buffers are what it hands over with its four signals; -/
theorem hand_over (c : Dev nD) :
    (bigSep Finset.univ fun p : Fin 4 × Fin 4 => rbAny (F := F) c p.1 p.2) = bigSep Finset.univ fun d : Fin 4 => barPay (F := F) d (flip d c) := by
  rw [by_direction]
  refine bigSep_congr fun d _ => ?_
  unfold barPay
  refine bigSep_congr fun p _ => ?_
  by_cases hd : perm p.1 p.2 = d
  · rw [if_pos hd, if_pos hd]
    have h : peer p.1 p.2 (flip d c) = c := by unfold peer; rw [hd]; exact flip_flip d c
    rw [h]
  · rw [if_neg hd, if_neg hd]

/-- and what it gets with the four signals it waits for are its partners' landing buffers. -/
theorem handed_over (c : Dev nD) :
    (bigSep Finset.univ fun d : Fin 4 => barPay (F := F) d c) = bigSep Finset.univ fun p : Fin 4 × Fin 4 => rbAny (F := F) (peer p.1 p.2 c) p.1 p.2 :=
  (by_direction _).symm

theorem outPts_append (e : Dev nD) {b n n' : ℕ} (f : Vec F S1024x1024 .f32) : (outPts e b (n + n') f : sProp 𝕄) ⊣⊢ iprop(outPts e b n f ∗ outPts e (b + n) n' f) := by
  unfold outPts; rw [← rows_append]; exact pointsTo_union (rows_disjoint (Or.inl le_rfl))

/-- The result buffer is its four chunks. -/
theorem outPts_chunks (c : Dev nD) (f : Vec F S1024x1024 .f32) :
    (outPts c 0 1024 f : sProp 𝕄) ⊣⊢ bigSep Finset.univ fun ch : Fin 4 => outPts c (base ch 0 c) (size ch 0) f := by
  rw [bigSep_four]
  have h₁ := outPts_append (F := F) c (b := 0) (n := 384) (n' := 640) f
  have h₂ := outPts_append (F := F) c (b := 384) (n := 384) (n' := 256) f
  have h₃ := outPts_append (F := F) c (b := 768) (n := 128) (n' := 128) f
  show outPts c 0 1024 f ⊣⊢ iprop(outPts c 0 384 f ∗ outPts c 384 384 f ∗ outPts c 768 128 f ∗ outPts c 896 128 f)
  constructor
  · exact h₁.1.trans (sep_mono_right (h₂.1.trans (sep_mono_right h₃.1)))
  · exact (sep_mono_right ((sep_mono_right h₃.2).trans h₂.2)).trans h₁.2

theorem ahead_all (ch : Fin 4) (c : Dev nD) :
    (bigSep Finset.univ fun s : Fin 4 => iprop(Kit (F := F) (false, ch, s) c ∗ rbAny (F := F) (peer ch s c) ch s)) ⊢ ahead (F := F) ch 4 c := by
  rw [bigSep_four]
  rw [ahead_succ, ahead_succ, ahead_succ, ahead_succ]
  iintro ⟨H0, H1, H2, H3⟩
  isplitr [H0]; swap; · iexact H0
  isplitr [H1]; swap; · iexact H1
  isplitr [H2]; swap; · iexact H2
  isplitr [H3]; swap; · iexact H3
  unfold ahead; iempintro

theorem behind_all (ch : Fin 4) (c : Dev nD) : (bigSep Finset.univ fun s : Fin 4 => Kit (F := F) (true, ch, s) c) ⊢ behind (F := F) ch 4 c := by
  rw [bigSep_four]
  rw [behind_succ, behind_succ, behind_succ, behind_succ]
  iintro ⟨H0, H1, H2, H3⟩
  isplitr [H3]; swap; · iexact H3
  isplitr [H2]; swap; · iexact H2
  isplitr [H1]; swap; · iexact H1
  isplitr [H0]; swap; · iexact H0
  unfold behind; iempintro

/-- Everything needed to run the exchanges, sorted by chunk. -/
theorem ready_all (c : Dev nD) :
    iprop((bigSep Finset.univ fun t : Tr => Kit (F := F) t c) ∗ (bigSep Finset.univ fun p : Fin 4 × Fin 4 => rbAny (F := F) (peer p.1 p.2 c) p.1 p.2)
        ∗ outPts c 0 1024 (V m ρ 0 0 c))
      ⊢ bigSep Finset.univ fun ch : Fin 4 => Ready m ρ ch c := by
  have hB (Φ : Bool → sProp 𝕄) : bigSep Finset.univ Φ = iprop(Φ true ∗ Φ false) := bigSep_univ_eq_bigSepL [true, false] (by decide) (by decide) Φ
  rw [bigSep_univ_prod, hB, bigSep_univ_prod, bigSep_univ_prod (fun y : Fin 4 × Fin 4 => Kit (F := F) (false, y) c), bigSep_univ_prod (fun p : Fin 4 × Fin 4 => rbAny (F := F) (peer p.1 p.2 c) p.1 p.2)]
  have hR : (bigSep Finset.univ fun ch : Fin 4 => Ready m ρ ch c)
      = iprop((bigSep Finset.univ fun ch : Fin 4 => outPts c (base ch 0 c) (size ch 0) (V m ρ ch 0 c))
        ∗ (bigSep Finset.univ fun ch : Fin 4 => ahead (F := F) ch 4 c) ∗ bigSep Finset.univ fun ch : Fin 4 => behind (F := F) ch 4 c) := by
    rw [← bigSep_sep', ← bigSep_sep']; rfl
  have hA : iprop((bigSep Finset.univ fun ch : Fin 4 => bigSep Finset.univ fun s : Fin 4 => Kit (F := F) (false, ch, s) c)
      ∗ bigSep Finset.univ fun ch : Fin 4 => bigSep Finset.univ fun s : Fin 4 => rbAny (F := F) (peer ch s c) ch s)
      ⊢ bigSep Finset.univ fun ch : Fin 4 => ahead (F := F) ch 4 c := by
    rw [← bigSep_sep']
    exact bigSep_mono fun ch _ => by rw [← bigSep_sep']; exact ahead_all ch c
  have hH : (bigSep Finset.univ fun ch : Fin 4 => bigSep Finset.univ fun s : Fin 4 => Kit (F := F) (true, ch, s) c)
      ⊢ bigSep Finset.univ fun ch : Fin 4 => behind (F := F) ch 4 c := bigSep_mono fun ch _ => behind_all ch c
  have hO := (outPts_chunks c (V m ρ 0 0 c)).1
  rw [hR]
  iintro ⟨⟨Hb, Hk⟩, Hr, Ho⟩
  isplitl [Ho]; · iapply hO; iexact Ho
  isplitl [Hk Hr]
  · iapply hA
    isplitl [Hk]; · iexact Hk
    iexact Hr
  iapply hH; iexact Hb

/-! ## The barrier and the first store -/

/-- A signal to the partner in direction `d`, with the landing buffers it writes. -/
theorem signal_step (c n : Dev nD) (d : Fin 4) (hn : n = flip d c) (O : CellTallies nD τ sig Unit)
    {α : Type} {Q : α → sProp 𝕄} {k : PUnit → Prog (TpuEff nD τ sig (Elt F) Λ₀ .tc) α} :
    iprop(ctx m ρ ∗ owesN c (O + tallyAt (bCell (flip d c)) () 1) ∗ dutyTok ER (bCell (flip d c)) 0 d ∗ barPay (F := F) d (flip d c))
      ⊢ iprop((owesN c O -∗ WP c (k ⟨⟩) Q) -∗ WP c (.op (.semSignal (n, Proc.tc) barS (1#32).toInt) k) Q) := by
  subst hn
  have hB := ctx_bar m ρ (flip d c)
  unfold owesN known at *
  iintro ⟨#Hc, ⟨%W, HO⟩, Ht, Hp⟩ Hk
  ihave #HB := hB $$ Hc
  icases HB with ⟨⟨%κ, #HI⟩, #Hr⟩
  iapply (Rounds.wp_signal 𝒱₀ ER (Rd m ρ) (c : Thread nD τ) none (dst := (flip d c : Thread nD τ)) (κ := κ)
      (d := d) (by rw [duties_bar]; exact Finset.mem_univ _) ((amount_bar m ρ (flip d c) d).trans (by decide)) () O rfl)
    $$ [HO Ht Hp]
  · isplitr; · iexact HI
    isplitl [HO]; · iexact HO
    isplitl [Ht]; · iexact Ht
    isplitl [Hp]; · rw [payload_bar]; iexact Hp
    iexact Hr
  iintro HO
  iapply Hk
  iexists W; iexact HO

/-- The wait for the four partners' signals. -/
theorem barrier_step (c : Dev nD)
    {α : Type} {Q : α → sProp 𝕄} {k : PUnit → Prog (TpuEff nD τ sig (Elt F) Λ₀ .tc) α} :
    iprop(ctx m ρ ∗ owesN c (owe c 32) ∗ cred (tallyAt (bCell c) () 4) ∗ atPos ER (bCell c) 0 ∅ 0)
      ⊢ iprop(((owesN c (owe c 32) ∗ semVal (bCell c) 0 ∗ bigSep Finset.univ fun p : Fin 4 × Fin 4 => rbAny (F := F) (peer p.1 p.2 c) p.1 p.2) -∗ WP c (k ⟨⟩) Q)
        -∗ WP c (.op (.semWait barS (4#32).toInt) k) Q) := by
  have hB := ctx_bar m ρ c
  have hL : ctx m ρ ⊢ MayWait (c : Thread nD τ) (.reg barS) () (owe c 32) :=
    ctx_lev m ρ (mayWait_owe (F := F) c (.reg barS) 32 le_rfl (by show 1 < 2 + (32 - 32); decide))
  have hP := (rest_bar m ρ c).trans (handed_over (F := F) c)
  unfold owesN known at *
  iintro ⟨#Hc, ⟨%W, HO⟩, Hcr, Hat⟩ Hk
  ihave #HB := hB $$ Hc
  icases HB with ⟨⟨%κ, #HI⟩, #Hr⟩
  iapply (Rounds.wp_wait_rest_token 𝒱₀ ER (Rd m ρ) (c : Thread nD τ) none (κ := κ)
      (wpE_semWait_eq 𝒱₀ (c : Thread nD τ) none Set.univ) (Set.mem_univ _) () (O := owe c 32) (W := W) (R := 0) (m := 0) (T := ∅)
      (by rw [expect_bar]; decide)) $$ [Hcr HO Hat]
  · isplitr; · iexact HI
    isplitl [Hcr]; · iexact Hcr
    isplitl [HO]; · iexact HO
    isplitr; · iapply hL; iexact Hc
    iexact Hat
  iintro ⟨HO, Hat, -, Hpay⟩
  ihave Hpay := (Entails.of_eq hP) $$ Hpay
  imod (Rounds.cell_close ER (Rd m ρ) (Set.mem_univ κ) (fun h => h) (R := 0 + 1) (duties_later m ρ (bCell c))) $$ [Hat] with Hz
  · isplitr; · iexact HI
    iexact Hat
  iapply Hk
  isplitl [HO]; · iexists _; iexact HO
  isplitl [Hz]; · iexact Hz
  iexact Hpay

abbrev rx : Rect S1x1x1x1024x1024 := Rect.unit (s := S1x1x1x1024x1024) ![0, 0, 0, 0, 0] S1x1x1x1024x1024.size inb_S1x1x1x1024x1024_S1x1x1x1024x1024_0_0_0_0_0
abbrev ro : Rect S1024x1024 := Rect.unit (s := S1024x1024) ![0, 0] S1024x1024.size inb_S1024x1024_S1024x1024_0_0

theorem hz₅ : (![0, 0, 0, 0, 0] : Fin 5 → Nat) = fun _ => 0 := funext fun a => by fin_cases a <;> rfl
theorem hz₂ : (![0, 0] : Fin 2 → Nat) = fun _ => 0 := funext fun a => by fin_cases a <;> rfl
theorem read_x (f : (cc0_stg0_0 : Ref sig .tc).ty.Contents (Elt F)) : (xM : Memref sig .tc .vmem S1x1x1x1024x1024 .f32).view.readAt (Elt F) rx.toLoadRect f = f :=
  Memref.readAt_unit_zero (Elt F) cc0_stg0_0 hz₅ _ f

theorem outPts_whole (c : Dev nD) (f : Vec F S1024x1024 .f32) :
    (outPts c 0 1024 f : sProp 𝕄) = (((c : Thread nD τ).loc cc0_stg1_0) ↦{fullShare} f) := by
  unfold outPts
  have h : rows 0 1024 = Finset.univ := by
    ext i; rw [mem_rows]; have := (i 0).isLt
    exact ⟨fun _ => Finset.mem_univ _, fun _ => ⟨Nat.zero_le _, by simpa using this⟩⟩
  rw [h]

/-- The block is read whole, reshaped and stored as the result buffer's first contents. -/
theorem store_step (c : Dev nD) {hl hl' hx hm} {f₁}
    {α : Type} {Q : α → sProp 𝕄} {k : PUnit → Prog (TpuEff nD τ sig (Elt F) Λ₀ .tc) α} :
    iprop((((c : Thread nD τ).loc cc0_stg0_0) ↦{fullShare} xstg m ρ c) ∗ (((c : Thread nD τ).loc cc0_stg1_0) ↦{fullShare} f₁))
      ⊢ iprop((((((c : Thread nD τ).loc cc0_stg0_0) ↦{fullShare} xstg m ρ c) ∗ outPts c 0 1024 (V m ρ 0 0 c)) -∗ WP c (k ⟨⟩) Q)
          -∗ WP c (.op (.load xM rx.toLoadRect hl) fun v1 =>
              .op (.load oM ro.toLoadRect hl') fun v2 =>
              .op (.store oM ro (k0_pay1 v1) Finset.univ hx hm) k) Q) := by
  rw [outPts_whole]
  iintro ⟨Hx, Ho⟩ Hk
  iapply (wp_load 𝒱₀ (c : Thread nD τ) none Set.univ (m := xM) (Finset.subset_univ _)) $$ Hx; iintro Hx
  rw [read_x]
  iapply (wp_load 𝒱₀ (c : Thread nD τ) none Set.univ (m := oM) (Finset.subset_univ _)) $$ Ho; iintro Ho
  iapply (wp_store 𝒱₀ (c : Thread nD τ) none Set.univ (m := oM) (r := ro) (Mk := Finset.univ) (Finset.subset_univ _)) $$ Ho; iintro Ho
  rw [show ((oM : Memref sig .tc .vmem S1024x1024 .f32).access ro : View sig .tc _ _ _).write (Elt F) _ _ Finset.univ = _ from
    Memref.write_access_unit_zero_univ (Elt F) cc0_stg1_0 hz₂ _ _ _]
  iapply Hk
  isplitl [Hx]; · iexact Hx
  iexact Ho

/-- The rights to signal the four partners' barriers. -/
abbrev barToks (c : Dev nD) : sProp 𝕄 := bigSep Finset.univ fun d : Fin 4 => dutyTok ER (bCell (flip d c)) 0 d

/-- From the launch to the first exchange. -/
theorem opening (c n₀ n₁ n₂ n₃ : Dev nD) (h₀ : n₀ = flip 0 c) (h₁ : n₁ = flip 1 c) (h₂ : n₂ = flip 2 c) (h₃ : n₃ = flip 3 c)
    {hl hl' hx hm} {f₁}
    {α : Type} {Q : α → sProp 𝕄} {k : PUnit → Prog (TpuEff nD τ sig (Elt F) Λ₀ .tc) α} :
    iprop(ctx m ρ ∗ owesN c (O₀ c) ∗ (cred (tallyAt (bCell c) () 4) ∗ atPos ER (bCell c) 0 ∅ 0 ∗ barToks (F := F) c ∗ bigSep Finset.univ fun t : Tr => Kit (F := F) t c)
        ∗ (bigSep Finset.univ fun p : Fin 4 × Fin 4 => rbAny (F := F) c p.1 p.2)
        ∗ (((c : Thread nD τ).loc cc0_stg0_0) ↦{fullShare} xstg m ρ c) ∗ (((c : Thread nD τ).loc cc0_stg1_0) ↦{fullShare} f₁))
      ⊢ iprop(((owesN c (owe c 32) ∗ semVal (bCell c) 0 ∗ (((c : Thread nD τ).loc cc0_stg0_0) ↦{fullShare} xstg m ρ c)
            ∗ bigSep Finset.univ fun ch : Fin 4 => Ready m ρ ch c) -∗ WP c (k ⟨⟩) Q)
          -∗ WP c (.op (.semSignal (n₀, Proc.tc) barS (1#32).toInt) fun _ => .op (.semSignal (n₁, Proc.tc) barS (1#32).toInt) fun _ =>
              .op (.semSignal (n₂, Proc.tc) barS (1#32).toInt) fun _ => .op (.semSignal (n₃, Proc.tc) barS (1#32).toInt) fun _ =>
              .op (.semWait barS (4#32).toInt) fun _ =>
              .op (.load xM rx.toLoadRect hl) fun v1 =>
              .op (.load oM ro.toLoadRect hl') fun v2 =>
              .op (.store oM ro (k0_pay1 v1) Finset.univ hx hm) k) Q) := by
  unfold barToks O₀
  rw [hand_over, bigSep_four, bigSep_four]
  iintro ⟨#Hc, HO, ⟨Hcr, Hat, ⟨Ht0, Ht1, Ht2, Ht3⟩, Hkit⟩, ⟨Hp0, Hp1, Hp2, Hp3⟩, Hx, Ho⟩ Hk
  iapply (signal_step m ρ c n₀ 0 h₀ _) $$ [HO Ht0 Hp0]
  · isplitr; · iexact Hc
    isplitl [HO]; · iexact HO
    isplitl [Ht0] <;> iassumption
  iintro HO
  iapply (signal_step m ρ c n₁ 1 h₁ _) $$ [HO Ht1 Hp1]
  · isplitr; · iexact Hc
    isplitl [HO]; · iexact HO
    isplitl [Ht1] <;> iassumption
  iintro HO
  iapply (signal_step m ρ c n₂ 2 h₂ _) $$ [HO Ht2 Hp2]
  · isplitr; · iexact Hc
    isplitl [HO]; · iexact HO
    isplitl [Ht2] <;> iassumption
  iintro HO
  iapply (signal_step m ρ c n₃ 3 h₃ _) $$ [HO Ht3 Hp3]
  · isplitr; · iexact Hc
    isplitl [HO]; · iexact HO
    isplitl [Ht3] <;> iassumption
  iintro HO
  iapply (barrier_step m ρ c) $$ [HO Hcr Hat]
  · isplitr; · iexact Hc
    isplitl [HO]; · iexact HO
    isplitl [Hcr] <;> iassumption
  iintro ⟨HO, Hz, Hrb⟩
  iapply (store_step m ρ c) $$ [Hx Ho]
  · isplitl [Hx] <;> iassumption
  iintro ⟨Hx, Ho⟩
  iapply Hk
  isplitl [HO]; · iexact HO
  isplitl [Hz]; · iexact Hz
  isplitl [Hx]; · iexact Hx
  iapply (ready_all m ρ c)
  isplitl [Hkit]; · iexact Hkit
  isplitl [Hrb]; · iexact Hrb
  iexact Ho

end Cert.KernelIdeal.AR

end
-- ==== Proof.BodyKernelIdeal.lean ====
/-
# The whole of one device's run

After the opening the four chunks take turns, stage after stage. Each lemma here runs what the program does of one
chunk before it turns to the next, and the chunk goes to the end of the row: so the run is one list of them.
-/
module

public import proofs.«01_k».proof.Proof.OpeningKernelIdeal
public import proofs.«01_k».proof.Proof.Gen.KernelIdeal.Skeleton
public import Idealize.ShloMosaic.Lib.Pipeline.Value

@[expose] public section

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## One chunk after another -/

/-- A step of the chunk in front, after which it is the last. -/
theorem rot {A A' B C D R O O' W W' : sProp 𝕄} (h : iprop(ctx m ρ ∗ A ∗ O) ⊢ iprop(((A' ∗ O') -∗ W) -∗ W'))
    (hk : iprop(ctx m ρ ∗ O' ∗ B ∗ C ∗ D ∗ A' ∗ R) ⊢ W) : iprop(ctx m ρ ∗ O ∗ A ∗ B ∗ C ∗ D ∗ R) ⊢ W' := by
  iintro ⟨#Hc, HO, HA, HB, HC, HD, HR⟩
  iapply h $$ [HO HA]
  · isplitr; · iexact Hc
    isplitl [HA] <;> iassumption
  iintro ⟨HA, HO⟩
  iapply hk
  isplitr; · iexact Hc
  isplitl [HO]; · iexact HO
  isplitl [HB]; · iexact HB
  isplitl [HC]; · iexact HC
  isplitl [HD]; · iexact HD
  isplitl [HA]; · iexact HA
  iexact HR

/-- Two steps of the same chunk, one after the other. -/
theorem two_steps {A A' A'' O O' O'' W W' W'' : sProp 𝕄} (h : iprop(ctx m ρ ∗ A ∗ O) ⊢ iprop(((A' ∗ O') -∗ W') -∗ W''))
    (h' : iprop(ctx m ρ ∗ A' ∗ O') ⊢ iprop(((A'' ∗ O'') -∗ W) -∗ W')) : iprop(ctx m ρ ∗ A ∗ O) ⊢ iprop(((A'' ∗ O'') -∗ W) -∗ W'') := by
  iintro ⟨#Hc, HA, HO⟩ Hk
  iapply h $$ [HO HA]
  · isplitr; · iexact Hc
    isplitl [HA] <;> iassumption
  iintro ⟨HA, HO⟩
  iapply h' $$ [HO HA]
  · isplitr; · iexact Hc
    isplitl [HA] <;> iassumption
  iexact Hk

/-- What a step leaves, seen another way. -/
theorem step_then {A A' A'' O O' W W' : sProp 𝕄} (h : iprop(ctx m ρ ∗ A ∗ O) ⊢ iprop(((A' ∗ O') -∗ W) -∗ W')) (h' : A' ⊢ A'') :
    iprop(ctx m ρ ∗ A ∗ O) ⊢ iprop(((A'' ∗ O') -∗ W) -∗ W') := by
  iintro H Hk
  iapply h $$ H
  iintro ⟨HA, HO⟩
  iapply Hk
  isplitl [HA]; · iapply h'; iexact HA
  iexact HO

section Steps

variable (c n : Dev nD) (ch : Fin 4)
variable {i₁ i₂ ss rs : DmaSem sig}
variable {sp₁ sp₁' sp₂ sp₂' : Space} {s₁ s₁' s₂ s₂' : Shape} {e₁ e₁' e₂ e₂' : EltTy}
variable {src₁ : Memref sig .tc sp₁' s₁' e₁'} {dst₁ : Memref sig .tc sp₁ s₁ e₁} {src₂ : Memref sig .tc sp₂' s₂' e₂'} {dst₂ : Memref sig .tc sp₂ s₂ e₂}

/-- The opening, up to the four chunks in a row. -/
theorem open_step {α : Type} {Q : α → sProp 𝕄} {k : PUnit → Prog (TpuEff nD τ sig (Elt F) Λ₀ .tc) α}
    (n₀ n₁ n₂ n₃ : Dev nD) (h₀ : n₀ = flip 0 c) (h₁ : n₁ = flip 1 c) (h₂ : n₂ = flip 2 c) (h₃ : n₃ = flip 3 c)
    {hl hl' hx hm} {f₁} {R : sProp 𝕄}
    (hk : iprop(ctx m ρ ∗ owesN c (owe c 32) ∗ Ready m ρ 0 c ∗ Ready m ρ 1 c ∗ Ready m ρ 2 c ∗ Ready m ρ 3 c
        ∗ (semVal (bCell c) 0 ∗ (((c : Thread nD τ).loc cc0_stg0_0) ↦{fullShare} xstg m ρ c) ∗ R)) ⊢ WP c (k ⟨⟩) Q) :
    iprop((ctx m ρ ∗ owesN c (O₀ c) ∗ (cred (tallyAt (bCell c) () 4) ∗ atPos ER (bCell c) 0 ∅ 0 ∗ barToks (F := F) c ∗ bigSep Finset.univ fun t : Tr => Kit (F := F) t c)
        ∗ (bigSep Finset.univ fun p : Fin 4 × Fin 4 => rbAny (F := F) c p.1 p.2)
        ∗ (((c : Thread nD τ).loc cc0_stg0_0) ↦{fullShare} xstg m ρ c) ∗ (((c : Thread nD τ).loc cc0_stg1_0) ↦{fullShare} f₁)) ∗ R)
      ⊢ WP c (.op (.semSignal (n₀, Proc.tc) barS (1#32).toInt) fun _ => .op (.semSignal (n₁, Proc.tc) barS (1#32).toInt) fun _ =>
              .op (.semSignal (n₂, Proc.tc) barS (1#32).toInt) fun _ => .op (.semSignal (n₃, Proc.tc) barS (1#32).toInt) fun _ =>
              .op (.semWait barS (4#32).toInt) fun _ =>
              .op (.load xM rx.toLoadRect hl) fun v1 =>
              .op (.load oM ro.toLoadRect hl') fun v2 =>
              .op (.store oM ro (k0_pay1 v1) Finset.univ hx hm) k) Q := by
  have h := opening m ρ c n₀ n₁ n₂ n₃ h₀ h₁ h₂ h₃ (hl := hl) (hl' := hl') (hx := hx) (hm := hm) (f₁ := f₁) (Q := Q) (k := k)
  rw [bigSep_four] at h
  iintro ⟨⟨#Hc, H⟩, HR⟩
  iapply h $$ [H]
  · isplitr; · iexact Hc
    iexact H
  iintro ⟨HO, Hz, Hx, H0, H1, H2, H3⟩
  iapply hk
  isplitr; · iexact Hc
  isplitl [HO]; · iexact HO
  isplitl [H0]; · iexact H0
  isplitl [H1]; · iexact H1
  isplitl [H2]; · iexact H2
  isplitl [H3]; · iexact H3
  isplitl [Hz]; · iexact Hz
  isplitl [Hx] <;> iassumption

/-- One stage on the way down, and the start of the next. -/
theorem down_step {α : Type} {Q : α → sProp 𝕄} {k : PUnit → Prog (TpuEff nD τ sig (Elt F) Λ₀ .tc) α}
    (s s' : Fin 4) (hs : s'.val = s.val + 1) (r : ℕ) (hr : ord (false, ch, s) < 32 - (r + 1) := by decide +kernel)
    (h₁ : i₁ = sSem (false, ch, s) := by decide +kernel) (h₂ : i₂ = rSem (false, ch, s) := by decide +kernel)
    (hd₁ : dst₁.view.dmaCredit = amt ch s := by rfl) (hd₂ : dst₂.view.dmaCredit = amt ch s := by rfl)
    {off off' off'' : Fin 2 → ℕ} {inb : ∀ a, off a + (Sn (hsz ch s)).size a ≤ S1024x1024.size a}
    {inb' : ∀ a, off' a + (Sn (hsz ch s)).size a ≤ S1024x1024.size a} {inb'' : ∀ a, off'' a + (Sn (hsz ch s)).size a ≤ S1024x1024.size a}
    (ho : off = ![base ch (s + 1) c, 0] := by clear * -; decide +revert +kernel) (ho' : off' = ![base ch (s + 1) c, 0] := by clear * -; decide +revert +kernel)
    (ho'' : off'' = ![base ch (s + 1) c, 0] := by clear * -; decide +revert +kernel)
    {z : Fin 2 → ℕ} {inz : ∀ a, z a + (Sn (hsz ch s)).size a ≤ (Sn (hsz ch s)).size a}
    {pay : Vec F (Sn (hsz ch s)) .f32 → Vec F (Sn (hsz ch s)) .f32 → Vec F (Sn (hsz ch s)) .f32}
    (hpay : ∀ a b, pay a b = addf (F := F) (φ := .f32) (s := Sn (hsz ch s)) a b := by exact fun a b => congrArg (fun z => addf z b) (Idealize.ShloMosaic.shapeCast_self a _))
    {w₁ w₁' w₂ w₂' hl hl' hl'' hx hm}
    (hn : n = peer ch s' c := by clear * -; decide +revert +kernel) (hr' : nth (31 - r) = (false, ch, s') := by decide +kernel)
    {o : Fin 2 → ℕ} {ib : ∀ a, o a + (Sn (hsz ch s')).size a ≤ S1024x1024.size a} (hoo : o = ![base ch (s' + 1) (peer ch s' c), 0] := by clear * -; decide +revert +kernel)
    (hss : ss = sSem (false, ch, s') := by decide +kernel) (hrs : rs = rSem (false, ch, s') := by decide +kernel)
    {hsc hsrc hdst hsem} :
    iprop(ctx m ρ ∗ Down m ρ ch s c ∗ owesN c (owe c (r + 1)))
      ⊢ iprop(((Down m ρ ch s' c ∗ owesN c (owe c r)) -∗ WP c (k ⟨⟩) Q)
          -∗ WP c (.op (.waitDma2 i₁ src₁ dst₁ w₁ w₁') fun _ => .op (.waitDma2 i₂ src₂ dst₂ w₂ w₂') fun _ =>
              .op (.load oM (Rect.unit (s := S1024x1024) off (Sn (hsz ch s)).size inb).toLoadRect hl) fun v1 =>
              .op (.load (rb ch s) (Rect.unit (s := Sn (hsz ch s)) z (Sn (hsz ch s)).size inz).toLoadRect hl') fun v2 =>
              .op (.load oM (Rect.unit (s := S1024x1024) off' (Sn (hsz ch s)).size inb').toLoadRect hl'') fun v3 =>
              .op (.store oM (Rect.unit (s := S1024x1024) off'' (Sn (hsz ch s)).size inb'') (pay v1 v2) Finset.univ hx hm) fun _ =>
              .op (.enqueueDma (oM.slice (Rect.unit (s := S1024x1024) o (Sn (hsz ch s')).size ib) (fun _ => rfl))
              (.remote (Dev.tc n : Thread nD τ) (rb ch s') (.dma ss) hsc) (.dma rs) hsrc hdst hsem) k) Q) :=
  two_steps m ρ (down_sum m ρ c ch s (r + 1) hr h₁ h₂ hd₁ hd₂ ho ho' ho'' hpay) (down_next m ρ c n ch s s' hs r hn hr' hoo hss hrs)

/-- The last stage on the way down, and the start of the way back. -/
theorem turn_step {α : Type} {Q : α → sProp 𝕄} {k : PUnit → Prog (TpuEff nD τ sig (Elt F) Λ₀ .tc) α}
    (r : ℕ) (hr : ord (false, ch, 3) < 32 - (r + 1) := by decide +kernel)
    (h₁ : i₁ = sSem (false, ch, 3) := by decide +kernel) (h₂ : i₂ = rSem (false, ch, 3) := by decide +kernel)
    (hd₁ : dst₁.view.dmaCredit = amt ch 3 := by rfl) (hd₂ : dst₂.view.dmaCredit = amt ch 3 := by rfl)
    {off off' off'' : Fin 2 → ℕ} {inb : ∀ a, off a + (Sn (hsz ch (3 : Fin 4))).size a ≤ S1024x1024.size a}
    {inb' : ∀ a, off' a + (Sn (hsz ch (3 : Fin 4))).size a ≤ S1024x1024.size a} {inb'' : ∀ a, off'' a + (Sn (hsz ch (3 : Fin 4))).size a ≤ S1024x1024.size a}
    (ho : off = ![base ch ((3 : Fin 4) + 1) c, 0] := by clear * -; decide +revert +kernel) (ho' : off' = ![base ch ((3 : Fin 4) + 1) c, 0] := by clear * -; decide +revert +kernel)
    (ho'' : off'' = ![base ch ((3 : Fin 4) + 1) c, 0] := by clear * -; decide +revert +kernel)
    {z : Fin 2 → ℕ} {inz : ∀ a, z a + (Sn (hsz ch (3 : Fin 4))).size a ≤ (Sn (hsz ch (3 : Fin 4))).size a}
    {pay : Vec F (Sn (hsz ch (3 : Fin 4))) .f32 → Vec F (Sn (hsz ch (3 : Fin 4))) .f32 → Vec F (Sn (hsz ch (3 : Fin 4))) .f32}
    (hpay : ∀ a b, pay a b = addf (F := F) (φ := .f32) (s := Sn (hsz ch (3 : Fin 4))) a b := by exact fun a b => congrArg (fun z => addf z b) (Idealize.ShloMosaic.shapeCast_self a _))
    {w₁ w₁' w₂ w₂' hl hl' hl'' hx hm}
    (hn : n = peer ch 3 c := by clear * -; decide +revert +kernel) (hr' : nth (31 - r) = (true, ch, 3) := by decide +kernel)
    {o o' : Fin 2 → ℕ} {ib : ∀ a, o a + (Sn (hsz ch (3 : Fin 4))).size a ≤ S1024x1024.size a} {ib' : ∀ a, o' a + (Sn (hsz ch (3 : Fin 4))).size a ≤ S1024x1024.size a}
    (hoo : o = ![base ch ((3 : Fin 4) + 1) c, 0] := by clear * -; decide +revert +kernel) (hoo' : o' = ![base ch ((3 : Fin 4) + 1) c, 0] := by clear * -; decide +revert +kernel)
    (hss : ss = sSem (true, ch, 3) := by decide +kernel) (hrs : rs = rSem (true, ch, 3) := by decide +kernel)
    {hsc hsrc hdst hsem} :
    iprop(ctx m ρ ∗ Down m ρ ch 3 c ∗ owesN c (owe c (r + 1)))
      ⊢ iprop(((Back (F := F) ch 3 c ∗ owesN c (owe c r)) -∗ WP c (k ⟨⟩) Q)
          -∗ WP c (.op (.waitDma2 i₁ src₁ dst₁ w₁ w₁') fun _ => .op (.waitDma2 i₂ src₂ dst₂ w₂ w₂') fun _ =>
              .op (.load oM (Rect.unit (s := S1024x1024) off (Sn (hsz ch (3 : Fin 4))).size inb).toLoadRect hl) fun v1 =>
              .op (.load (rb ch 3) (Rect.unit (s := Sn (hsz ch (3 : Fin 4))) z (Sn (hsz ch (3 : Fin 4))).size inz).toLoadRect hl') fun v2 =>
              .op (.load oM (Rect.unit (s := S1024x1024) off' (Sn (hsz ch (3 : Fin 4))).size inb').toLoadRect hl'') fun v3 =>
              .op (.store oM (Rect.unit (s := S1024x1024) off'' (Sn (hsz ch (3 : Fin 4))).size inb'') (pay v1 v2) Finset.univ hx hm) fun _ =>
              .op (.enqueueDma (oM.slice (Rect.unit (s := S1024x1024) o (Sn (hsz ch (3 : Fin 4))).size ib) (fun _ => rfl))
              (.remote (Dev.tc n : Thread nD τ) (oM.slice (Rect.unit (s := S1024x1024) o' (Sn (hsz ch (3 : Fin 4))).size ib') (fun _ => rfl)) (.dma ss) hsc) (.dma rs) hsrc hdst hsem) k) Q) :=
  two_steps m ρ (step_then m ρ (down_sum m ρ c ch 3 (r + 1) hr h₁ h₂ hd₁ hd₂ ho ho' ho'' hpay) (turn m ρ c ch))
    (back_next m ρ c n ch 3 r hn hr' hoo hoo' hss hrs)

/-- One stage on the way back, and the start of the next. -/
theorem back_step {α : Type} {Q : α → sProp 𝕄} {k : PUnit → Prog (TpuEff nD τ sig (Elt F) Λ₀ .tc) α}
    (s s' : Fin 4) (hs : s.val = s'.val + 1) (r : ℕ) (hr : ord (true, ch, s) < 32 - (r + 1) := by decide +kernel)
    (h₁ : i₁ = sSem (true, ch, s) := by decide +kernel) (h₂ : i₂ = rSem (true, ch, s) := by decide +kernel)
    (hd₁ : dst₁.view.dmaCredit = amt ch s := by rfl) (hd₂ : dst₂.view.dmaCredit = amt ch s := by rfl)
    {w₁ w₁' w₂ w₂'}
    (hn : n = peer ch s' c := by clear * -; decide +revert +kernel) (hr' : nth (31 - r) = (true, ch, s') := by decide +kernel)
    {o o' : Fin 2 → ℕ} {ib : ∀ a, o a + (Sn (hsz ch s')).size a ≤ S1024x1024.size a} {ib' : ∀ a, o' a + (Sn (hsz ch s')).size a ≤ S1024x1024.size a}
    (hoo : o = ![base ch (s' + 1) c, 0] := by clear * -; decide +revert +kernel) (hoo' : o' = ![base ch (s' + 1) c, 0] := by clear * -; decide +revert +kernel)
    (hss : ss = sSem (true, ch, s') := by decide +kernel) (hrs : rs = rSem (true, ch, s') := by decide +kernel)
    {hsc hsrc hdst hsem} :
    iprop(ctx m ρ ∗ Back (F := F) ch s c ∗ owesN c (owe c (r + 1)))
      ⊢ iprop(((Back (F := F) ch s' c ∗ owesN c (owe c r)) -∗ WP c (k ⟨⟩) Q)
          -∗ WP c (.op (.waitDma2 i₁ src₁ dst₁ w₁ w₁') fun _ => .op (.waitDma2 i₂ src₂ dst₂ w₂ w₂') fun _ =>
              .op (.enqueueDma (oM.slice (Rect.unit (s := S1024x1024) o (Sn (hsz ch s')).size ib) (fun _ => rfl))
              (.remote (Dev.tc n : Thread nD τ) (oM.slice (Rect.unit (s := S1024x1024) o' (Sn (hsz ch s')).size ib') (fun _ => rfl)) (.dma ss) hsc) (.dma rs) hsrc hdst hsem) k) Q) :=
  two_steps m ρ (step_then m ρ (back_join m ρ c ch s (r + 1) hr h₁ h₂ hd₁ hd₂) (by rw [hs]))
    (back_next m ρ c n ch s' r hn hr' hoo hoo' hss hrs)

/-- The last stage on the way back. -/
theorem last_step {α : Type} {Q : α → sProp 𝕄} {k : PUnit → Prog (TpuEff nD τ sig (Elt F) Λ₀ .tc) α}
    (hr : ord (true, ch, 0) < 32 := by decide +kernel)
    (h₁ : i₁ = sSem (true, ch, 0) := by decide +kernel) (h₂ : i₂ = rSem (true, ch, 0) := by decide +kernel)
    (hd₁ : dst₁.view.dmaCredit = amt ch 0 := by rfl) (hd₂ : dst₂.view.dmaCredit = amt ch 0 := by rfl)
    {w₁ w₁' w₂ w₂'} :
    iprop(ctx m ρ ∗ Back (F := F) ch 0 c ∗ owesN c (owe c 0))
      ⊢ iprop(((Over m ρ ch c ∗ owesN c (owe c 0)) -∗ WP c (k ⟨⟩) Q)
          -∗ WP c (.op (.waitDma2 i₁ src₁ dst₁ w₁ w₁') fun _ => .op (.waitDma2 i₂ src₂ dst₂ w₂ w₂') k) Q) :=
  step_then m ρ (back_join m ρ c ch 0 0 hr h₁ h₂ hd₁ hd₂) (finished_over m ρ c ch)

end Steps

/-! ## At the end -/

theorem after_all (ch : Fin 4) (c : Dev nD) :
    after (F := F) ch 4 c ⊢ bigSep Finset.univ fun s : Fin 4 => iprop(Done (F := F) (false, ch, s) c ∗ rbAny (F := F) c ch s) := by
  rw [bigSep_four, after_succ, after_succ, after_succ, after_succ]
  iintro ⟨⟨⟨⟨-, H0⟩, H1⟩, H2⟩, H3⟩
  isplitl [H0]; · iexact H0
  isplitl [H1]; · iexact H1
  isplitl [H2]; · iexact H2
  iexact H3

theorem returned_all (ch : Fin 4) (c : Dev nD) : returned (F := F) ch 4 c ⊢ bigSep Finset.univ fun s : Fin 4 => Done (F := F) (true, ch, s) c := by
  rw [bigSep_four, returned_succ, returned_succ, returned_succ, returned_succ]
  iintro ⟨⟨⟨⟨-, H0⟩, H1⟩, H2⟩, H3⟩
  isplitl [H3]; · iexact H3
  isplitl [H2]; · iexact H2
  isplitl [H1]; · iexact H1
  iexact H0

/-- The four chunks done with: the whole result, every semaphore at zero, every landing buffer back. -/
theorem over_all (c : Dev nD) :
    (bigSep Finset.univ fun ch : Fin 4 => Over m ρ ch c)
      ⊢ iprop(outPts c 0 1024 (fin m ρ) ∗ (bigSep Finset.univ fun t : Tr => Done (F := F) t c)
        ∗ bigSep Finset.univ fun p : Fin 4 × Fin 4 => rbAny (F := F) c p.1 p.2) := by
  have hB (Φ : Bool → sProp 𝕄) : bigSep Finset.univ Φ = iprop(Φ true ∗ Φ false) := bigSep_univ_eq_bigSepL [true, false] (by decide) (by decide) Φ
  rw [bigSep_univ_prod, hB, bigSep_univ_prod, bigSep_univ_prod (fun y : Fin 4 × Fin 4 => Done (F := F) (false, y) c), bigSep_univ_prod (fun p : Fin 4 × Fin 4 => rbAny (F := F) c p.1 p.2)]
  have hR : (bigSep Finset.univ fun ch : Fin 4 => Over m ρ ch c)
      = iprop((bigSep Finset.univ fun ch : Fin 4 => outPts c (base ch 0 c) (size ch 0) (fin m ρ))
        ∗ (bigSep Finset.univ fun ch : Fin 4 => after (F := F) ch 4 c) ∗ bigSep Finset.univ fun ch : Fin 4 => returned (F := F) ch 4 c) := by
    rw [← bigSep_sep', ← bigSep_sep']; rfl
  have hA : (bigSep Finset.univ fun ch : Fin 4 => after (F := F) ch 4 c)
      ⊢ iprop((bigSep Finset.univ fun ch : Fin 4 => bigSep Finset.univ fun s : Fin 4 => Done (F := F) (false, ch, s) c)
      ∗ bigSep Finset.univ fun ch : Fin 4 => bigSep Finset.univ fun s : Fin 4 => rbAny (F := F) c ch s) := by
    rw [← bigSep_sep']
    exact bigSep_mono fun ch _ => by rw [← bigSep_sep']; exact after_all ch c
  have hH : (bigSep Finset.univ fun ch : Fin 4 => returned (F := F) ch 4 c)
      ⊢ bigSep Finset.univ fun ch : Fin 4 => bigSep Finset.univ fun s : Fin 4 => Done (F := F) (true, ch, s) c := bigSep_mono fun ch _ => returned_all ch c
  have hO := (outPts_chunks c (fin m ρ)).2
  rw [hR]
  iintro ⟨Ho, Ha, Hr⟩
  ihave Ha := hA $$ Ha
  icases Ha with ⟨Hd, Hrb⟩
  isplitl [Ho]; · iapply hO; iexact Ho
  isplitl [Hd Hr]
  · isplitl [Hr]; · iapply hH; iexact Hr
    iexact Hd
  iexact Hrb

end Cert.KernelIdeal.AR

end
-- ==== Proof.RunKernelIdeal.lean ====
/-
# A device's run, from its launch to its end

The kernel's program, all its parts written out one after the other, is the opening and then the chunks' turns in order.
-/
module

public import proofs.«01_k».proof.Proof.BodyKernelIdeal

@[expose] public section

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 40000000 in
set_option maxRecDepth 10000 in
/-- From what a device starts with, its run ends with every chunk done. -/
theorem run_all (c : Dev nD) {f₁} {R : sProp 𝕄} {Q : PUnit → sProp 𝕄}
    (hend : iprop(ctx m ρ ∗ owesN c (owe c 0) ∗ Over m ρ 0 c ∗ Over m ρ 1 c ∗ Over m ρ 2 c ∗ Over m ρ 3 c
        ∗ (semVal (bCell c) 0 ∗ (((c : Thread nD τ).loc cc0_stg0_0) ↦{fullShare} xstg m ρ c) ∗ R)) ⊢ Q ⟨⟩) :
    iprop((ctx m ρ ∗ owesN c (O₀ c) ∗ (cred (tallyAt (bCell c) () 4) ∗ atPos ER (bCell c) 0 ∅ 0 ∗ barToks (F := F) c ∗ bigSep Finset.univ fun t : Tr => Kit (F := F) t c)
        ∗ (bigSep Finset.univ fun p : Fin 4 × Fin 4 => rbAny (F := F) c p.1 p.2)
        ∗ (((c : Thread nD τ).loc cc0_stg0_0) ↦{fullShare} xstg m ρ c) ∗ (((c : Thread nD τ).loc cc0_stg1_0) ↦{fullShare} f₁)) ∗ R)
      ⊢ WP c (cc0_body (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17) Q := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel
  simp only [semSignalWord, semWaitWord, Prog.lift, Prog.bind_op, Prog.bind_ret, Prog.pure_eq_ret, wp_deviceId]
  refine open_step m ρ c _ _ _ _ (by clear * -; decide +revert +kernel) (by clear * -; decide +revert +kernel) (by clear * -; decide +revert +kernel) (by clear * -; decide +revert +kernel) ?_
  refine rot m ρ (first_start m ρ c _ 0 31 (by clear * -; decide +revert +kernel) (by decide +kernel) (by clear * -; decide +revert +kernel) (by decide +kernel) (by decide +kernel)) ?_
  refine rot m ρ (first_start m ρ c _ 1 30 (by clear * -; decide +revert +kernel) (by decide +kernel) (by clear * -; decide +revert +kernel) (by decide +kernel) (by decide +kernel)) ?_
  refine rot m ρ (first_start m ρ c _ 2 29 (by clear * -; decide +revert +kernel) (by decide +kernel) (by clear * -; decide +revert +kernel) (by decide +kernel) (by decide +kernel)) ?_
  refine rot m ρ (first_start m ρ c _ 3 28 (by clear * -; decide +revert +kernel) (by decide +kernel) (by clear * -; decide +revert +kernel) (by decide +kernel) (by decide +kernel)) ?_
  refine rot m ρ (down_step m ρ c _ 0 0 1 rfl 27) ?_
  refine rot m ρ (down_step m ρ c _ 1 0 1 rfl 26) ?_
  refine rot m ρ (down_step m ρ c _ 2 0 1 rfl 25) ?_
  refine rot m ρ (down_step m ρ c _ 3 0 1 rfl 24) ?_
  refine rot m ρ (down_step m ρ c _ 0 1 2 rfl 23) ?_
  refine rot m ρ (down_step m ρ c _ 1 1 2 rfl 22) ?_
  refine rot m ρ (down_step m ρ c _ 2 1 2 rfl 21) ?_
  refine rot m ρ (down_step m ρ c _ 3 1 2 rfl 20) ?_
  refine rot m ρ (down_step m ρ c _ 0 2 3 rfl 19) ?_
  refine rot m ρ (down_step m ρ c _ 1 2 3 rfl 18) ?_
  refine rot m ρ (down_step m ρ c _ 2 2 3 rfl 17) ?_
  refine rot m ρ (down_step m ρ c _ 3 2 3 rfl 16) ?_
  refine rot m ρ (turn_step m ρ c _ 0 15) ?_
  refine rot m ρ (turn_step m ρ c _ 1 14) ?_
  refine rot m ρ (turn_step m ρ c _ 2 13) ?_
  refine rot m ρ (turn_step m ρ c _ 3 12) ?_
  refine rot m ρ (back_step m ρ c _ 0 3 2 rfl 11) ?_
  refine rot m ρ (back_step m ρ c _ 1 3 2 rfl 10) ?_
  refine rot m ρ (back_step m ρ c _ 2 3 2 rfl 9) ?_
  refine rot m ρ (back_step m ρ c _ 3 3 2 rfl 8) ?_
  refine rot m ρ (back_step m ρ c _ 0 2 1 rfl 7) ?_
  refine rot m ρ (back_step m ρ c _ 1 2 1 rfl 6) ?_
  refine rot m ρ (back_step m ρ c _ 2 2 1 rfl 5) ?_
  refine rot m ρ (back_step m ρ c _ 3 2 1 rfl 4) ?_
  refine rot m ρ (back_step m ρ c _ 0 1 0 rfl 3) ?_
  refine rot m ρ (back_step m ρ c _ 1 1 0 rfl 2) ?_
  refine rot m ρ (back_step m ρ c _ 2 1 0 rfl 1) ?_
  refine rot m ρ (back_step m ρ c _ 3 1 0 rfl 0) ?_
  refine rot m ρ (last_step m ρ c 0) ?_
  refine rot m ρ (last_step m ρ c 1) ?_
  refine rot m ρ (last_step m ρ c 2) ?_
  refine rot m ρ (last_step m ρ c 3) ?_
  refine hend.trans ?_
  unfold WP
  rw [wp_ret]
  iintro H; imodintro; iexact H

end Cert.KernelIdeal.AR

end
-- ==== Proof.LaunchKernelIdeal.lean ====
/-
# The launch

What every device is dealt at the start, the body's obligation, and the run of the whole program.
-/
module

public import proofs.«01_k».proof.Proof.RunKernelIdeal
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs
public import Idealize.ShloMosaic.Lib.Pipeline.ValueKit.Geometry

@[expose] public section

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Before and after the body -/

/-- What a device's run starts from. -/
def start (c : Dev nD) : sProp 𝕄 :=
  iprop(ctx m ρ ∗ cred (tallyAt (bCell c) () 4) ∗ atPos ER (bCell c) 0 ∅ 0 ∗ barToks (F := F) c ∗ bigSep Finset.univ fun t : Tr => Kit (F := F) t c)
/-- Its landing buffers. -/
def bufs (c : Dev nD) : sProp 𝕄 := bigSep Finset.univ fun p : Fin 4 × Fin 4 => rbAny (F := F) c p.1 p.2

def Φ₀ (c : Dev nD) : sProp 𝕄 := iprop(start m ρ c ∗ bufs (F := F) c)
def Φ₁ (c : Dev nD) : sProp 𝕄 := iprop(bufs (F := F) c ∗ (bigSep Finset.univ fun t : Tr => Done (F := F) t c) ∗ semVal (bCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => fin m ρ
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

/-- A whole buffer holding a known value. -/
abbrev held (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- What the body leaves: everything spent, the argument's staging buffer as it was, the sum in the result's. -/
def bodyPost (c : Dev nD) : sProp 𝕄 :=
  iprop(Φ₁ (F := F) c ∗ (dats m ρ 0 c).owesAt () t0_0.succ ∗ held c cc0_stg0_0 (xstg m ρ c) ∗ held c cc0_stg1_0 (fin m ρ))

theorem body_end (c : Dev nD) :
    iprop(ctx m ρ ∗ owesN c (owe c 0) ∗ Over m ρ 0 c ∗ Over m ρ 1 c ∗ Over m ρ 2 c ∗ Over m ρ 3 c
        ∗ (semVal (bCell c) 0 ∗ (((c : Thread nD τ).loc cc0_stg0_0) ↦{fullShare} xstg m ρ c) ∗ emp)) ⊢ bodyPost m ρ c := by
  have h := over_all m ρ c
  rw [bigSep_four, outPts_whole] at h
  unfold bodyPost Φ₁ bufs owesN Dat.owesAt Pipeline.owesWithin
  rw [show (dats m ρ 0 c).owed t0_0.succ = 0 from rfl, show owe c 0 = 0 from rfl]
  iintro ⟨-, ⟨%W, HO⟩, H0, H1, H2, H3, Hz, Hx, -⟩
  ihave H := h $$ [H0 H1 H2 H3]
  · isplitl [H0]; · iexact H0
    isplitl [H1]; · iexact H1
    isplitl [H2] <;> iassumption
  icases H with ⟨Ho, Hd, Hb⟩
  isplitl [Hb Hd Hz]
  · isplitl [Hb]; · iexact Hb
    isplitl [Hd] <;> iassumption
  isplitl [HO]
  · iexists W
    isplitr; · ipureintro; exact fun _ _ => Or.inl trivial
    iexact HO
  isplitl [Hx]
  · iexists _; isplitr; · ipureintro; rfl
    iexact Hx
  iexists _; isplitr; · ipureintro; rfl
  iexact Ho

theorem after_x (c : Dev nD) : (dats m ρ 0 c).after (0 : Fin 2) t0_0 = xstg m ρ c := rfl
theorem after_out (c : Dev nD) : (dats m ρ 0 c).after (1 : Fin 2) t0_0 = fin m ρ := rfl
theorem Φ_first (c : Dev nD) : (dats m ρ 0 c).Φ t0_0.castSucc = Φ₀ m ρ c := rfl
theorem Φ_last (c : Dev nD) : (dats m ρ 0 c).Φ t0_0.succ = Φ₁ (F := F) c := rfl
theorem body_eq : (defs₀ (F := F) Proc.tc 0 (t0_0, cfg0.slots t0_0) : Prog (TpuEff nD τ sig (Elt F) Λ₀ .tc) PUnit) = (cc0_body (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17) := rfl

theorem body_obligation (c : Dev nD) : BodyObligation (dats (F := F) m ρ 0 c) (defs₀ (F := F)) 𝒱₀ () Set.univ := fun t => by
  rw [fin_N0 t]
  rw [bigSep_W0, bigSep_W0]
  simp only [owns_whole]
  rw [after_x, after_out, Φ_first, Φ_last, body_eq]
  have h (f₁) := run_all m ρ c (f₁ := f₁) (R := iprop(emp)) (Q := fun _ => bodyPost m ρ c) (body_end m ρ c)
  unfold bodyPost at h
  unfold Φ₀ start bufs Dat.owesAt Pipeline.owesWithin at *
  rw [show (dats m ρ 0 c).owed t0_0.castSucc = O₀ c from rfl]
  iintro ⟨⟨⟨#Hc, Hs⟩, Hb⟩, ⟨%W, %hW, HO⟩, ⟨%d0, %g0, %hg0, Hx⟩, ⟨%d1, %g1, %hg1, Hout⟩⟩
  have hx : g0 = xstg m ρ c := by rw [hg0]; unfold Dat.before; rw [if_pos (fetch0_0 t0_0)]; rfl
  subst hx
  iapply (h g1)
  isplitl
  · isplitr; · iexact Hc
    isplitl [HO]; · unfold owesN; iexists W; iexact HO
    isplitl [Hs]; · iexact Hs
    isplitl [Hb]; · iexact Hb
    isplitl [Hx] <;> iassumption
  · iempintro

/-! ## The semaphores, and what is dealt at the launch -/

theorem ownSemFacts : Pipeline.OwnSemFacts cfg0.spec osem := by decide +kernel

theorem csem_injective : Function.Injective csem := by decide +kernel
theorem kcell_injective : Function.Injective kcell := fun p q h =>
  Prod.ext (congrArg (fun g : GSem nD τ sig => g.1.1) h) (csem_injective (congrArg Prod.snd h))

theorem share_eq (c : Dev nD) (w : Fin cfg0.W) : (dats m ρ 0 c).share w = fullShare := by unfold Dat.share; split <;> rfl

theorem bigSep_bool (Φ : Bool → sProp 𝕄) : bigSep Finset.univ Φ = iprop(Φ true ∗ Φ false) := bigSep_univ_eq_bigSepL [true, false] (by decide) (by decide) Φ

/-- Something of each of a device's semaphores: of the exchanges', -/
theorem dma_split (Ψ : GSem nD τ sig → sProp 𝕄) (c : Dev nD) :
    (bigSep Finset.univ fun p : Bool × Tr => Ψ ((c : Thread nD τ), osem p))
      = iprop((bigSep Finset.univ fun t : Tr => Ψ (rCell c t)) ∗ bigSep Finset.univ fun t : Tr => Ψ (sCell c t)) := by
  rw [bigSep_univ_prod, bigSep_bool]; rfl
/-- and of all of them. -/
theorem cells_split (Ψ : GSem nD τ sig → sProp 𝕄) (c : Dev nD) :
    (bigSep Finset.univ fun k : Ce => Ψ (kcell (c, k)))
      = iprop(Ψ (bCell c) ∗ bigSep Finset.univ fun p : Bool × Tr => Ψ ((c : Thread nD τ), osem p)) := by
  rw [bigSep_univ_sum, bigSep_univ_of_subsingleton ()]; rfl

def theCells : Finset (GSem nD τ sig) := Finset.univ.map ⟨kcell, kcell_injective⟩
def theToks : Finset (GSem nD τ sig × ℕ × Fin 4) :=
  Finset.univ.map ⟨fun x : (Dev nD × Ce) × Fin 4 => (kcell x.1, 0, x.2), fun x y h =>
    Prod.ext (kcell_injective (congrArg Prod.fst h)) (congrArg (fun z : GSem nD τ sig × ℕ × Fin 4 => z.2.2) h)⟩

def u₀ : UU := (initOf (Pipeline.cells cfgs cellOf_inj) (Pipeline.launchToks cfgs cellOf_inj), initOf theCells theToks)

/-- The rights to signal a device's own semaphores. -/
def ownToks (c : Dev nD) : sProp 𝕄 := bigSep Finset.univ fun k : Ce => bigSep Finset.univ fun d : Fin 4 => dutyTok ER (kcell (c, k)) 0 d
/-- A device's place in the round of each of its semaphores. -/
def ownPos (c : Dev nD) : sProp 𝕄 := bigSep Finset.univ fun k : Ce => atPos ER (kcell (c, k)) 0 ∅ 0

/-- What the launch deals a device; -/
def G (c : Dev nD) : sProp 𝕄 :=
  iprop((bigSep Finset.univ fun k : Ce => roundState ER (Rd m ρ) (kcell (c, k)) 0) ∗ (bigSep Finset.univ fun k : Ce => reached ER (kcell (c, k)) 0)
    ∗ ownPos (F := F) c ∗ ownToks (F := F) c)

/-- the part of `Kit` that is dealt; -/
def Tools (t : Tr) (c : Dev nD) : sProp 𝕄 :=
  iprop(dutyTok ER (sCell c t) 0 (0 : Fin 4) ∗ dutyTok ER (rCell (mate t c) t) 0 (0 : Fin 4) ∗ atPos ER (sCell c t) 0 ∅ 0 ∗ atPos ER (rCell c t) 0 ∅ 0)

def allKnown : sProp 𝕄 := bigSep Finset.univ fun p : Dev nD × Ce => known m ρ (kcell p)
instance allKnown_persistent : BI.Persistent (allKnown (F := F) m ρ) := by unfold allKnown; infer_instance

/-- and what a device has once the invariants stand and the rights are with those who use them. -/
def G' (c : Dev nD) : sProp 𝕄 :=
  iprop(allKnown m ρ ∗ atPos ER (bCell c) 0 ∅ 0 ∗ barToks (F := F) c ∗ bigSep Finset.univ fun t : Tr => Tools (F := F) t c)

theorem fund_all : BI.own (ER (initOf theCells theToks)) ⊢ (|==> bigSep Finset.univ (G m ρ) : sProp 𝕄) := by
  have hX (Φ : GSem nD τ sig → sProp 𝕄) : bigSep theCells Φ = bigSep Finset.univ fun c : Dev nD => bigSep Finset.univ fun k : Ce => Φ (kcell (c, k)) := by
    unfold theCells; rw [bigSep_map, bigSep_univ_prod]; rfl
  have hT : bigSep theToks (fun x => (dutyTok ER x.1 x.2.1 x.2.2 : sProp 𝕄)) = bigSep Finset.univ fun c : Dev nD => ownToks c := by
    unfold theToks; rw [bigSep_map, bigSep_univ_prod, bigSep_univ_prod]; rfl
  iintro HX
  imod (Rounds.fund ER (Rd m ρ) theCells theToks) $$ HX with ⟨Hst, Hr, Hat, Htok⟩
  imodintro
  ihave Hst := (Entails.of_eq (hX fun g => roundState ER (Rd m ρ) g 0)) $$ Hst
  ihave Hr := (Entails.of_eq (hX fun g => reached ER g 0)) $$ Hr
  ihave Hat := (Entails.of_eq (hX fun g => atPos ER g 0 ∅ 0)) $$ Hat
  ihave Htok := (Entails.of_eq hT) $$ Htok
  unfold G ownPos; simp only [bigSep_sep']
  isplitl [Hst]; · iexact Hst
  isplitl [Hr]; · iexact Hr
  isplitl [Hat] <;> iassumption

/-- The barrier semaphore is the launch's one unscoped semaphore. -/
theorem unscoped_eq (c : Dev nD) : (unscopedSems0 c : sProp 𝕄) = semVal (bCell c) 0 := by
  unfold unscopedSems0; rw [bigSep_eq_bigSepL_of_eq [SemLoc.reg barS] (by decide) (by decide)]; rfl

/-- The kernel's own semaphores at zero are its exchanges done with. -/
theorem own_eq (c : Dev nD) : (Pipeline.ownSems0 (Ix := Unit) (Name := ℕ) (U := UU) (Lvl := ℕ) (Val := Elt F) (τ := τ) osem c : sProp 𝕄)
    ⊣⊢ bigSep Finset.univ fun t : Tr => Done (F := F) t c := by
  have h : (Pipeline.ownSems0 (Ix := Unit) (Name := ℕ) (U := UU) (Lvl := ℕ) (Val := Elt F) (τ := τ) osem c : sProp 𝕄)
      = iprop((bigSep Finset.univ fun t : Tr => semVal (rCell c t) 0) ∗ bigSep Finset.univ fun t : Tr => semVal (sCell c t) 0) := dma_split (fun g => semVal g 0) c
  have h' : (bigSep Finset.univ fun t : Tr => Done (F := F) t c)
      = iprop((bigSep Finset.univ fun t : Tr => semVal (sCell c t) 0) ∗ bigSep Finset.univ fun t : Tr => semVal (rCell c t) 0) := bigSep_sep' _ _ _
  rw [h, h']
  constructor
  · iintro ⟨H1, H2⟩; isplitl [H2] <;> iassumption
  · iintro ⟨H1, H2⟩; isplitl [H2] <;> iassumption

/-- One device's invariants are set up. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Ce => known m ρ (kcell (c, k))) ∗ ownPos (F := F) c ∗ ownToks (F := F) c) := by
  have hv : iprop(unscopedSems0 c ∗ Pipeline.ownSems0 (Ix := Unit) (Name := ℕ) (U := UU) (Lvl := ℕ) (Val := Elt F) (τ := τ) osem c)
      ⊢ (bigSep Finset.univ fun k : Ce => semVal (kcell (c, k)) 0 : sProp 𝕄) := by
    rw [unscoped_eq]; exact Entails.of_eq (cells_split (fun g => semVal g 0) c).symm
  have hi : iprop((bigSep Finset.univ fun k : Ce => semVal (kcell (c, k)) 0) ∗ bigSep Finset.univ fun k : Ce => roundState ER (Rd m ρ) (kcell (c, k)) 0)
      ⊢ (|={Set.univ}=> bigSep Finset.univ fun k => iprop(∃ κ : ℕ, cellInv ER (Rd m ρ) κ (kcell (c, k))) : sProp 𝕄) := by
    rw [← bigSep_sep']
    exact (bigSep_mono fun k _ => (Rounds.body_intro ER (Rd m ρ) (kcell (c, k))).trans inv_alloc).trans (bigSep_fupd _ _)
  unfold G known
  rw [bigSep_sep']
  iintro ⟨Hos, Hus, Hst, Hr, Hat, Htok⟩
  ihave Hv := hv $$ [Hos Hus]
  · isplitl [Hus] <;> iassumption
  imod hi $$ [Hv Hst] with Hinv
  · isplitl [Hv] <;> iassumption
  imodintro
  isplitl [Hinv Hr]
  · isplitl [Hinv] <;> iassumption
  isplitl [Hat] <;> iassumption

/-- Something of every device and every `i`, seen from the device that `e i` sends there. -/
theorem around {I : Type} [Fintype I] (e : I → Dev nD ≃ Dev nD) (Φ : I → Dev nD → sProp 𝕄) :
    (bigSep Finset.univ fun c : Dev nD => bigSep Finset.univ fun i : I => Φ i c)
      = bigSep Finset.univ fun c : Dev nD => bigSep Finset.univ fun i : I => Φ i (e i c) := by
  rw [bigSep_univ_comm, bigSep_univ_comm (fun (c : Dev nD) (i : I) => Φ i (e i c))]
  exact bigSep_congr fun i _ => bigSep_univ_equiv (e i) (Φ i)

/-- The rights to signal go to those who signal. -/
theorem toks_around : (bigSep Finset.univ fun c : Dev nD => (ownToks c : sProp 𝕄))
    ⊢ bigSep Finset.univ fun c : Dev nD => iprop(barToks (F := F) c ∗ (bigSep Finset.univ fun t : Tr => dutyTok ER (sCell c t) 0 (0 : Fin 4))
        ∗ bigSep Finset.univ fun t : Tr => dutyTok ER (rCell (mate t c) t) 0 (0 : Fin 4)) := by
  have hone (g : GSem nD τ sig) : (bigSep Finset.univ fun d : Fin 4 => (dutyTok ER g 0 d : sProp 𝕄)) ⊢ dutyTok ER g 0 (0 : Fin 4) := bigSep_elim (Finset.mem_univ _)
  have hs (c : Dev nD) : (ownToks c : sProp 𝕄) ⊢ iprop((bigSep Finset.univ fun d : Fin 4 => dutyTok ER (bCell c) 0 d)
      ∗ (bigSep Finset.univ fun t : Tr => dutyTok ER (sCell c t) 0 (0 : Fin 4)) ∗ bigSep Finset.univ fun t : Tr => dutyTok ER (rCell c t) 0 (0 : Fin 4)) := by
    have hS : (bigSep Finset.univ fun t : Tr => bigSep Finset.univ fun d : Fin 4 => (dutyTok ER (sCell c t) 0 d : sProp 𝕄))
      ⊢ bigSep Finset.univ fun t : Tr => dutyTok ER (sCell c t) 0 (0 : Fin 4) := bigSep_mono fun t _ => hone _
    have hR : (bigSep Finset.univ fun t : Tr => bigSep Finset.univ fun d : Fin 4 => (dutyTok ER (rCell c t) 0 d : sProp 𝕄))
      ⊢ bigSep Finset.univ fun t : Tr => dutyTok ER (rCell c t) 0 (0 : Fin 4) := bigSep_mono fun t _ => hone _
    unfold ownToks
    rw [cells_split (fun g => bigSep Finset.univ fun d : Fin 4 => (dutyTok ER g 0 d : sProp 𝕄)) c, dma_split (fun g => bigSep Finset.univ fun d : Fin 4 => (dutyTok ER g 0 d : sProp 𝕄)) c]
    iintro ⟨HB, HR, HS⟩
    isplitl [HB]; · iexact HB
    isplitl [HS]; · iapply hS; iexact HS
    iapply hR; iexact HR
  refine BIBase.Entails.trans (bigSep_mono fun c _ => hs c) (Entails.of_eq ?_)
  simp only [bigSep_sep']
  rw [around flipEquiv (fun d c => (dutyTok ER (bCell c) 0 d : sProp 𝕄)),
    around (fun t : Tr => peerEquiv t.2.1 t.2.2) (fun t c => (dutyTok ER (rCell c t) 0 (0 : Fin 4) : sProp 𝕄))]
  rfl

theorem regroup :
    (bigSep Finset.univ fun c : Dev nD => iprop((bigSep Finset.univ fun k : Ce => known m ρ (kcell (c, k))) ∗ ownPos (F := F) c ∗ ownToks (F := F) c))
      ⊢ bigSep Finset.univ (G' m ρ) := by
  have hd (c : Dev nD) : iprop(allKnown m ρ ∗ (ownPos (F := F) c ∗ (barToks (F := F) c ∗ (bigSep Finset.univ fun t : Tr => dutyTok ER (sCell c t) 0 (0 : Fin 4))
        ∗ bigSep Finset.univ fun t : Tr => dutyTok ER (rCell (mate t c) t) 0 (0 : Fin 4)))) ⊢ G' m ρ c := by
    unfold G' ownPos Tools
    rw [cells_split (fun g => (atPos ER g 0 ∅ 0 : sProp 𝕄)) c, dma_split (fun g => (atPos ER g 0 ∅ 0 : sProp 𝕄)) c, bigSep_sep', bigSep_sep', bigSep_sep']
    iintro ⟨HK, ⟨Hp, Hpr, Hps⟩, Hb, Hts, Htr⟩
    isplitl [HK]; · iexact HK
    isplitl [Hp]; · iexact Hp
    isplitl [Hb]; · iexact Hb
    isplitl [Hts]; · iexact Hts
    isplitl [Htr]; · iexact Htr
    isplitl [Hps] <;> iassumption
  have hk : (bigSep Finset.univ fun c : Dev nD => bigSep Finset.univ fun k : Ce => known m ρ (kcell (c, k))) = allKnown m ρ := by
    unfold allKnown; rw [bigSep_univ_prod]
  rw [bigSep_sep', bigSep_sep', hk]
  have share : allKnown m ρ ⊢ bigSep Finset.univ fun _ : Dev nD => allKnown m ρ := BI.bigSep_of_persistent _ _
  refine BIBase.Entails.trans (BIClass.sep_mono share (sep_mono_right toks_around)) ?_
  rw [← bigSep_sep', ← bigSep_sep']
  exact bigSep_mono fun c _ => hd c

/-- Every device's invariants, and the rights handed round. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The units a device will be signalled -/

theorem recv_cell_iff {a b : Dev nD} {t u : Tr} : Iff (rCell a t = rCell b u) (a = b ∧ t = u) := by
  constructor
  · intro h
    have h1 : a = b := congrArg (fun g : GSem nD τ sig => g.1.1) h
    have h2 : SemLoc.dma (rSem t) = SemLoc.dma (rSem u) := congrArg Prod.snd h
    refine ⟨h1, ?_⟩
    have h3 : rSem t = rSem u := by injection h2
    have h4 := congrArg trOf h3
    rwa [trOf_rSem, trOf_rSem] at h4
  · rintro ⟨rfl, rfl⟩; rfl
theorem bar_cell_iff {a b : Dev nD} : Iff (bCell a = bCell b) (a = b) :=
  ⟨fun h => congrArg (fun g : GSem nD τ sig => g.1.1) h, fun h => h ▸ rfl⟩
theorem recv_ne_bar (a b : Dev nD) (t : Tr) : rCell a t ≠ bCell b := fun h => by
  have h2 : SemLoc.dma (rSem t) = SemLoc.reg barS := congrArg Prod.snd h
  cases h2

theorem tally_at (g h : GSem nD τ sig) (k : ℕ) : (tallyAt h () k : CellTallies nD τ sig Unit) g () = if g = h then k else 0 := by
  rw [tallyAt_apply]; exact if_congr (and_iff_left rfl) rfl rfl

theorem owe_recv (d c : Dev nD) (t : Tr) (n : ℕ) (hn : n ≤ 32) :
    owe d n (rCell c t) () = if c = mate t d ∧ 32 - n ≤ ord t then amt t.2.1 t.2.2 else 0 := by
  induction n with
  | zero => rw [if_neg (fun h => by have := ord_lt t; omega)]; rfl
  | succ n ih =>
    unfold owe
    rw [Pi.add_apply, Finsupp.add_apply, tally_at, ih (by omega)]
    have ho : ord (nth (31 - n)) = 31 - n := ord_nth ⟨31 - n, by omega⟩
    by_cases ht : t = nth (31 - n)
    · rw [← ht] at ho ⊢
      have h0 : ¬ (c = mate t d ∧ 32 - n ≤ ord t) := fun h => by omega
      rw [if_neg h0, Nat.zero_add]
      refine if_congr ⟨fun h => ⟨(recv_cell_iff.mp h).1, by omega⟩, fun h => recv_cell_iff.mpr ⟨h.1, rfl⟩⟩ rfl rfl
    · have hne : ord t ≠ 31 - n := fun h => ht (by rw [← h, nth_ord])
      have h0 : ¬ (rCell c t = rCell (mate (nth (31 - n)) d) (nth (31 - n))) := fun h => ht (recv_cell_iff.mp h).2
      rw [if_neg h0, Nat.add_zero]
      exact if_congr ⟨fun h => ⟨h.1, by omega⟩, fun h => ⟨h.1, by omega⟩⟩ rfl rfl

theorem owe_bar (d c : Dev nD) (n : ℕ) : owe d n (bCell c) () = 0 := by
  induction n with
  | zero => rfl
  | succ n ih =>
    unfold owe
    rw [Pi.add_apply, Finsupp.add_apply, tally_at, ih, if_neg (Ne.symm (recv_ne_bar _ _ _))]

theorem launch_recv (c : Dev nD) (t : Tr) :
    tallyOn (rCell c t) (launchCredit (Pipeline.owing O₀) 0 (rCell c t)) = (tallyAt (rCell c t) () (amt t.2.1 t.2.2) : CellTallies nD τ sig Unit) := by
  have h (d : Dev nD) : O₀ d (rCell c t) () = if d = mate t c then amt t.2.1 t.2.2 else 0 := by
    unfold O₀
    simp only [Pi.add_apply, Finsupp.add_apply, tally_at]
    rw [owe_recv d c t 32 le_rfl, if_neg (recv_ne_bar _ _ _), if_neg (recv_ne_bar _ _ _), if_neg (recv_ne_bar _ _ _), if_neg (recv_ne_bar _ _ _)]
    refine if_congr ⟨fun h => ?_, fun h => ⟨?_, by omega⟩⟩ rfl rfl
    · rw [h.1]; exact (peer_peer _ _ _).symm
    · rw [h]; exact (peer_peer _ _ _).symm
  unfold tallyAt; refine congrArg _ (Finsupp.ext fun u => ?_); cases u
  rw [Pipeline.launchCredit_owing, Finsupp.single_eq_same, Finset.sum_congr rfl fun d _ => h d, Finset.sum_ite_eq' Finset.univ (mate t c) fun _ => _,
    if_pos (Finset.mem_univ _)]

theorem launch_bar (c : Dev nD) :
    tallyOn (bCell c) (launchCredit (Pipeline.owing O₀) 0 (bCell c)) = (tallyAt (bCell c) () 4 : CellTallies nD τ sig Unit) := by
  have hi (q : Fin 4) (d : Dev nD) : (if bCell c = bCell (flip q d) then 1 else 0) = if d = flip q c then 1 else 0 := by
    refine if_congr ?_ rfl rfl
    rw [bar_cell_iff]
    exact ⟨fun h => by rw [h, flip_flip], fun h => by rw [h, flip_flip]⟩
  have h (d : Dev nD) : O₀ d (bCell c) () = (if d = flip 3 c then 1 else 0) + (if d = flip 2 c then 1 else 0) + (if d = flip 1 c then 1 else 0) + (if d = flip 0 c then 1 else 0) := by
    unfold O₀
    simp only [Pi.add_apply, Finsupp.add_apply, tally_at]
    rw [owe_bar d c 32, Nat.zero_add, hi, hi, hi, hi]
  unfold tallyAt; refine congrArg _ (Finsupp.ext fun u => ?_); cases u
  rw [Pipeline.launchCredit_owing, Finsupp.single_eq_same, Finset.sum_congr rfl fun d _ => h d, Finset.sum_add_distrib, Finset.sum_add_distrib, Finset.sum_add_distrib,
    Finset.sum_ite_eq' Finset.univ (flip 3 c) fun _ => 1, Finset.sum_ite_eq' Finset.univ (flip 2 c) fun _ => 1, Finset.sum_ite_eq' Finset.univ (flip 1 c) fun _ => 1,
    Finset.sum_ite_eq' Finset.univ (flip 0 c) fun _ => 1, if_pos (Finset.mem_univ _), if_pos (Finset.mem_univ _), if_pos (Finset.mem_univ _), if_pos (Finset.mem_univ _)]

theorem recv_injective : Function.Injective fun t : Tr => SemLoc.dma (rSem t) := by decide +kernel

theorem creds (c : Dev nD) :
    (Pipeline.launchCred O₀ c : sProp 𝕄)
      ⊢ iprop(cred (tallyAt (bCell c) () 4) ∗ bigSep Finset.univ fun t : Tr => cred (tallyAt (rCell c t) () (amt t.2.1 t.2.2))) := by
  have h : bigSep Finset.univ (fun t : Tr => (cred (tallyOn (rCell c t) (launchCredit (Pipeline.owing O₀) 0 (rCell c t))) : sProp 𝕄))
      = bigSep Finset.univ fun t : Tr => cred (tallyAt (rCell c t) () (amt t.2.1 t.2.2)) := bigSep_congr fun t _ => by rw [launch_recv]
  unfold Pipeline.launchCred
  rw [bigSep_univ_at _ (SemLoc.reg barS), launch_bar]
  refine sep_mono_right ?_
  rw [← h]
  refine (bigSep_subset (t := Finset.univ.map ⟨fun t : Tr => SemLoc.dma (rSem t), recv_injective⟩) fun x hx => ?_).trans (Entails.of_eq (bigSep_map _))
  obtain ⟨t, -, rfl⟩ := Finset.mem_map.mp hx
  have hne : SemLoc.dma (rSem t) ≠ SemLoc.reg barS := fun h => by cases h
  exact Finset.mem_erase.mpr ⟨hne, Finset.mem_univ _⟩

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  have hK : iprop((bigSep Finset.univ fun t : Tr => Tools (F := F) t c) ∗ bigSep Finset.univ fun t : Tr => cred (tallyAt (rCell c t) () (amt t.2.1 t.2.2)))
      ⊢ bigSep Finset.univ fun t : Tr => Kit (F := F) t c := by
    rw [← bigSep_sep']
    refine bigSep_mono fun t _ => (?_ : iprop(Tools (F := F) t c ∗ cred (tallyAt (rCell c t) () (amt t.2.1 t.2.2))) ⊢ Kit (F := F) t c)
    unfold Tools Kit
    iintro ⟨⟨H1, H2, H3, H4⟩, H5⟩
    isplitl [H1]; · iexact H1
    isplitl [H2]; · iexact H2
    isplitl [H3]; · iexact H3
    isplitl [H4] <;> iassumption
  unfold start G' ctx allKnown
  iintro ⟨-, Hlev, Hcr, -, HK, Hp, Hb, Ht⟩
  ihave Hc := (creds (F := F) c) $$ Hcr
  icases Hc with ⟨H4, Hr⟩
  imodintro
  isplitl
  · isplitl [HK Hlev]
    · isplitl [HK] <;> iassumption
    isplitl [H4]; · iexact H4
    isplitl [Hp]; · iexact Hp
    isplitl [Hb]; · iexact Hb
    iapply hK
    isplitl [Ht] <;> iassumption
  · iempintro

theorem any_whole (c : Dev nD) (b : Ref sig .tc) :
    (iprop(∃ f, (Memref.whole b).view.loc (c : Thread nD τ) ↦[(Memref.whole b).view.set]{fullShare} f) : sProp 𝕄)
      = iprop(∃ f : Buf (Elt F) ((c : Thread nD τ).loc b), ((c : Thread nD τ).loc b) ↦{fullShare} f) := by
  simp only [Memref.view_whole, View.set_whole]

/-- The landing buffers, in the order of chunks and of stages. -/
def scr (p : Fin 4 × Fin 4) : Ref sig .tc :=
  (![![cc0_scratch0, cc0_scratch1, cc0_scratch2, cc0_scratch3], ![cc0_scratch4, cc0_scratch5, cc0_scratch6, cc0_scratch7],
    ![cc0_scratch8, cc0_scratch9, cc0_scratch10, cc0_scratch11], ![cc0_scratch12, cc0_scratch13, cc0_scratch14, cc0_scratch15]] : Fin 4 → Fin 4 → Ref sig .tc) p.1 p.2

theorem rbAny_eq (c : Dev nD) (p : Fin 4 × Fin 4) :
    (rbAny c p.1 p.2 : sProp 𝕄) = iprop(∃ f : Buf (Elt F) ((c : Thread nD τ).loc (scr p)), ((c : Thread nD τ).loc (scr p)) ↦{fullShare} f) := by
  rcases p with ⟨ch, s⟩
  fin_cases ch <;> fin_cases s <;> exact any_whole c _

theorem bufs_eq (c : Dev nD) : (Pipeline.scopedRest (Ix := Unit) (Name := ℕ) (U := UU) (Lvl := ℕ) (Val := Elt F) cfg0.spec c : sProp 𝕄) = bufs (F := F) c := by
  unfold bufs
  rw [bigSep_congr (s := Finset.univ) (fun p _ => rbAny_eq (F := F) c p),
    bigSep_univ_eq_bigSepL [(0, 0), (0, 1), (0, 2), (0, 3), (1, 0), (1, 1), (1, 2), (1, 3), (2, 0), (2, 1), (2, 2), (2, 3), (3, 0), (3, 1), (3, 2), (3, 3)] (by decide) (by decide)]
  exact scopedRest0_eq c

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, bufs_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  have h := (own_eq (F := F) c).2
  rw [show (dats m ρ 0 c).Φ (Fin.last cfg0.N) = Φ₁ (F := F) c from rfl, bufs_eq, unscoped_eq]
  unfold Φ₁
  iintro ⟨Hr, Hd, Hb⟩
  isplitl [Hb]; · iexact Hb
  isplitl [Hd]; · iapply h; iexact Hd
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- A window's array at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- On the sixteen devices, from any memory with zero counters, every fair run ends, with the arrays at their computed
    contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun c => (main_chain c).trans rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The array read is unchanged. -/
theorem finalA_x (c : Dev nD) : finalA m ρ c (0 : Fin 2) = (s₀ m ρ).mem (win0_0.arr.view.loc (c : Thread nD τ)) :=
  (dats (F := F) m ρ 0 c).arrAt_in (0 : Fin 2) rfl _

/-- The array written holds the finished sums. -/
theorem finalA_v1 (c : Dev nD) : finalA m ρ c (1 : Fin 2) = fin m ρ :=
  (dats (F := F) m ρ 0 c).arrAt_eq_of_after_last (1 : Fin 2) (0 : Fin 1)
    ⟨rfl, fun t _ => Subsingleton.elim (α := Fin 1) t 0, fun a => by fin_cases a <;> exact ⟨rfl, rfl⟩⟩ _ (fun _ => rfl)

/-- The run: on every device the block read is unchanged, the result is the finished array, and every semaphore is at
    zero. -/
theorem run_all_devices : θ_run defs (onTc (τ := τ) (main (F := F))) ⟨m, fun _ => 0, ρ⟩ (fun r =>
    (∀ c : Dev nD, r.2.mem ((c : Thread nD τ).loc main_arg0) = m ((c : Thread nD τ).loc main_arg0) ∧ r.2.mem ((c : Thread nD τ).loc main_v1) = fin m ρ)
      ∧ r.2.sem = fun _ => 0) :=
  (θ_run defs _ _).mono (fun _ h => ⟨fun c => ⟨(h.1 c 0).trans (finalA_x m ρ c), (h.1 c 1).trans (finalA_v1 m ρ c)⟩, h.2⟩) (run_main m ρ)

end Cert.KernelIdeal.AR

end
-- ==== Proof.Value.lean ====
/- The result's value over the extended reals: each device's array is the sum, over the sixteen devices, of their
   blocks, which is the reference's sum over the first three axes of the whole array. -/
module

public import proofs.«01_k».proof.Proof.LaunchKernelIdeal
public import proofs.«01_k».proof.Proof.Gen.ReferenceIdeal
public import Idealize.ShloMosaic.Lib.Pipeline.Value
public import Idealize.ShloMosaic.Lib.IdealHost
public import Idealize.ShloMosaic.Lib.ValueIdxCore
public import Idealize.ShloMosaic.Lib.Layout
public import Idealize.ShloMosaic.PureOps.Ideal.Laws

@[expose] public section

noncomputable section

namespace Cert.KernelIdeal.AR

open Cert.KernelIdeal Cert.KernelIdeal.Gen
open Idealize.ShloMosaic Idealize.ShloMosaic.TcCoe Idealize.ShloMosaic.ValueIdx Idealize.SL.Sem

/-- The devices whose blocks device `c`'s partial sums hold before stage `s` of chunk `ch`. -/
def heard (ch : Fin 4) : ℕ → Dev nD → Finset (Dev nD)
  | 0, c => {c}
  | s + 1, c => heard ch s c ∪ heard ch s (flip (perm ch s) c)

theorem heard_disjoint : ∀ (ch s : Fin 4) (c : Dev nD), Disjoint (heard ch s c) (heard ch s (flip (perm ch s) c)) := by decide +kernel
theorem heard_all : ∀ (ch : Fin 4) (c : Dev nD), heard ch 4 c = Finset.univ := by decide +kernel

variable (m : (ℓ : Loc nD τ sig) → Buf (Elt Ideal) ℓ) (ρ : Dev nD → PrngReg)

/-- The partial sums are sums of the blocks heard of. -/
theorem V_sum (ch : Fin 4) (i : S1024x1024.Idx) : ∀ (s : ℕ) (c : Dev nD), s ≤ 4 →
    V (F := Ideal) m ρ ch s c i = ∑ d ∈ heard ch s c, (k0_pay1 (F := Ideal) (xstg m ρ d) i : EReal)
  | 0, c, _ => by unfold heard V; rw [Finset.sum_singleton]
  | s + 1, c, hs => by
    have h := heard_disjoint ch ⟨s, by omega⟩ c
    have hp : perm ch s = perm ch (⟨s, by omega⟩ : Fin 4) := rfl
    unfold heard V
    rw [Finset.sum_union h, ← V_sum ch i s c (by omega), ← V_sum ch i s _ (by omega)]
    rfl

/-- The finished array is the sum over the devices. -/
theorem fin_sum (i : S1024x1024.Idx) : (fin (F := Ideal) m ρ i : EReal) = ∑ d : Dev nD, (k0_pay1 (F := Ideal) (xstg m ρ d) i : EReal) := by
  unfold fin; rw [V_sum m ρ _ i 4 _ le_rfl, heard_all]

/-- What is staged is the device's block. -/
theorem xstg_apply (c : Dev nD) (i : S1x1x1x1024x1024.Idx) : xstg (F := Ideal) m ρ c i = m ((c : Thread nD τ).loc main_arg0) i := by
  unfold xstg
  show m ((c : Thread nD τ).loc main_arg0) _ = _
  congr 1
  funext a; apply Fin.ext
  fin_cases a <;> simp <;> rfl

/-- The kernel's first contents are the block's elements. -/
theorem pay_apply (x : Vec Ideal S1x1x1x1024x1024 .f32) (a b : Fin 1024) : k0_pay1 (F := Ideal) x (ix2 a b) = x (ix5 0 0 0 a b) := by
  unfold k0_pay1
  rw [shapeCast_self]
  refine shapeCast_apply x _ _ _ ?_
  show (Shape.rowMajorPi ![1, 1, 1, 1024, 1024] _).val = (Shape.rowMajorPi ![1024, 1024] _).val
  simp only [Shape.rowMajorPi_succ_val]
  simp

/-- Where element `(a, b)` of device `c`'s block lies in the whole array. -/
def place (c : Dev nD) (a b : Fin 1024) : (⟨5, ![2, 2, 4, 1024, 1024]⟩ : Shape).Idx :=
  ix5 ⟨c.val / 8, by have h : c.val < 16 := c.isLt; omega⟩ ⟨c.val / 4 % 2, by omega⟩ ⟨c.val % 4, by omega⟩ a b

theorem block_apply (X : (⟨5, ![2, 2, 4, 1024, 1024]⟩ : Shape).Idx → EReal) (c : Dev nD) (a b : Fin 1024) :
    Layout.blockN ⟨5, ![1, 1, 1, 1024, 1024]⟩ ⟨5, ![2, 2, 4, 1024, 1024]⟩ (Layout.meshBlock [2, 2, 4] ![[0], [1], [2], [], []] c) X (by decide) (ix5 0 0 0 a b)
      = X (place c a b) := by
  rw [Layout.blockN_apply]
  congr 1
  funext f; apply Fin.ext
  rw [Layout.TilesN.idx_val]
  have hc : c.val < 16 := c.isLt
  fin_cases f
  · show (c.val / 8 % 2 * 1 + 0) * 1 + 0 = c.val / 8; omega
  · show (c.val / 4 % 2 * 1 + 0) * 1 + 0 = c.val / 4 % 2; omega
  · show (c.val / 1 % 4 * 1 + 0) * 1 + 0 = c.val % 4; omega
  · show 0 * 1024 + a.val = a.val; omega
  · show 0 * 1024 + b.val = b.val; omega

/-- The reference's sum over the first three axes is the sum over the devices. -/
theorem reduce_sum (X : (⟨5, ![2, 2, 4, 1024, 1024]⟩ : Shape).Idx → EReal)
    (h : (⟨5, ![2, 2, 4, 1024, 1024]⟩ : Shape).ReducesTo [0, 1, 2] (⟨2, ![1024, 1024]⟩ : Shape)) (a b : Fin 1024) :
    ∑ i ∈ Finset.univ.filter (fun i => h.drop i = ix2 a b), X i = ∑ c : Dev nD, X (place c a b) := by
  symm
  have hd (i : (⟨5, ![2, 2, 4, 1024, 1024]⟩ : Shape).Idx) : h.drop i = ix2 (i 3) (i 4) := by
    funext f; fin_cases f <;> rfl
  refine Finset.sum_nbij' (fun c => place c a b)
    (fun i => ⟨(i 0).val * 8 + (i 1).val * 4 + (i 2).val, by
      have h0 : (i 0).val < 2 := (i 0).isLt
      have h1 : (i 1).val < 2 := (i 1).isLt
      have h2 : (i 2).val < 4 := (i 2).isLt
      show _ < 16; omega⟩) ?_ ?_ ?_ ?_ ?_
  · intro c _
    rw [Finset.mem_filter]
    exact ⟨Finset.mem_univ _, hd _⟩
  · intro i _; exact Finset.mem_univ _
  · intro c _; apply Fin.ext
    have hc : c.val < 16 := c.isLt
    show c.val / 8 * 8 + c.val / 4 % 2 * 4 + c.val % 4 = c.val
    omega
  · intro i hi
    have hi := (Finset.mem_filter.mp hi).2
    rw [hd] at hi
    have h3 : i 3 = a := congrFun hi 0
    have h4 : i 4 = b := congrFun hi 1
    have h0 : (i 0).val < 2 := (i 0).isLt
    have h1 : (i 1).val < 2 := (i 1).isLt
    have h2 : (i 2).val < 4 := (i 2).isLt
    funext f; apply Fin.ext
    fin_cases f
    · show ((i 0).val * 8 + (i 1).val * 4 + (i 2).val) / 8 = (i 0).val; omega
    · show ((i 0).val * 8 + (i 1).val * 4 + (i 2).val) / 4 % 2 = (i 1).val; omega
    · show ((i 0).val * 8 + (i 1).val * 4 + (i 2).val) % 4 = (i 2).val; omega
    · exact congrArg Fin.val h3.symm
    · exact congrArg Fin.val h4.symm
  · intro c _; rfl

/-- The finished array is the reference's sum of the whole array whose blocks the devices hold. -/
theorem fin_eq_reduce (X : (⟨5, ![2, 2, 4, 1024, 1024]⟩ : Shape).Idx → EReal)
    (hX : ∀ c : Dev nD, m ((c : Thread nD τ).loc main_arg0) = Layout.blockN ⟨5, ![1, 1, 1, 1024, 1024]⟩ ⟨5, ![2, 2, 4, 1024, 1024]⟩ (Layout.meshBlock [2, 2, 4] ![[0], [1], [2], [], []] c) X) :
    fin (F := Ideal) m ρ = Host.reduceAdd (F := Ideal) (φ := .f32) X (constant ReferenceIdeal.S_ .f32 0x00000000#32)
      ReferenceIdeal.Facts₀.reducesTo_S2x2x4x1024x1024_S1024x1024_d0_1_2 ReferenceIdeal.Facts₀.h_S_ := by
  funext i
  obtain ⟨a, b, rfl⟩ : ∃ a b, i = ix2 a b := ⟨_, _, eq_ix2 i⟩
  rw [hostReduceAdd_apply]
  unfold Ideal.hostReduceAdd
  have h0 : (constant (F := Ideal) ReferenceIdeal.S_ .f32 0x00000000#32) (Shape.Idx.first ReferenceIdeal.Facts₀.h_S_) = (0 : EReal) := Ideal.ofBits_zero_f32
  rw [h0, reduce_sum, zero_add]
  refine (fin_sum m ρ _).trans (Finset.sum_congr rfl fun c _ => ?_)
  rw [pay_apply, xstg_apply, hX c, block_apply]

end Cert.KernelIdeal.AR

end
-- ==== Proof.lean ====
/-
# The all-reduce computes the sum

The kernel as printed and its reading over the extended reals run without fault, leave their argument as it was and
every semaphore at zero, and so does the reference. Over the extended reals every device's result is the reference's sum.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.LaunchKernel
public import proofs.«01_k».proof.Proof.Value
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel as printed runs, leaves its argument unchanged and every semaphore at zero. -/
theorem kernel_quiet : Cert.quiescent_Kernel (hKernel := Cert.Kernel.Gen.facts) := fun m g _ =>
  (θ_run _ _ _).mono (fun _ h => ⟨fun c => (h.1 c).1, h.2⟩) (Cert.Kernel.AR.run_all_devices m g)

/-- So does it read over the extended reals. -/
theorem kernelIdeal_quiet : Cert.quiescent_KernelIdeal (hKernelIdeal := Cert.KernelIdeal.Gen.facts) := fun m g _ =>
  (θ_run _ _ _).mono (fun _ h => ⟨fun c => (h.1 c).1, h.2⟩) (Cert.KernelIdeal.AR.run_all_devices m g)

/-- The reference runs and leaves its argument unchanged; it declares no semaphore. -/
theorem reference_quiet : Cert.quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run m g)

/-- Every device's result is the reference's. -/
theorem same_value : Cert.algebraic_KernelIdeal_ReferenceIdeal (hKernelIdeal := Cert.KernelIdeal.Gen.facts) (hReferenceIdeal := Cert.ReferenceIdeal.Gen.facts) :=
  fun m g m' g' _ hm => ⟨Cert.KernelIdeal.AR.fin m g,
    (θ_run _ _ _).mono (fun _ h c => ⟨(h.1 c).2, (h.1 c).1⟩) (Cert.KernelIdeal.AR.run_all_devices m g),
    (θ_run _ _ _).mono (fun _ h => ⟨((h 0).1).trans (Cert.KernelIdeal.AR.fin_eq_reduce m g _ hm).symm, (h 0).2⟩) (Cert.ReferenceIdeal.Value.run m' g')⟩

/-- All the claims together. -/
theorem claim : Cert.Claim := ⟨Cert.Kernel.Gen.facts, Cert.KernelIdeal.Gen.facts, Cert.ReferenceIdeal.Gen.facts,
  kernel_quiet, kernelIdeal_quiet, reference_quiet, trivial, same_value⟩

end Cert.Proof

end
